-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_noise [hPre_noise : Cert.Pre_noise.Facts] (m : (ℓ : Loc Cert.KernelIdeal.nD Cert.KernelIdeal.τ Cert.KernelIdeal.sig) → Buf (Elt Ideal) ℓ) : Prop :=
  ∀ c : Dev Cert.KernelIdeal.nD,
    (Cert.Pre_noise.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_noise [hPre_noise : Cert.Pre_noise.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_noise.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_listed : Cert.Pre_listed.Facts] (m : (ℓ : Loc Cert.Kernel2.nD Cert.Kernel2.τ Cert.Kernel2.sig) → Buf (Elt Bits) ℓ) : Prop :=
  ∀ c : Dev Cert.Kernel2.nD,
    (Cert.Pre_listed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_listed : Cert.Pre_listed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_listed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_listed [hPre_listed : Cert.Pre_listed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_listed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_noise [hKernelIdeal : Cert.KernelIdeal.Facts] [hPre_noise : Cert.Pre_noise.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_noise m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_noise [hReferenceIdeal : Cert.ReferenceIdeal.Facts] [hPre_noise : Cert.Pre_noise.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_noise m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_listed : Cert.Pre_listed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_listed : Cert.Pre_listed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_listed [hReference2Ideal : Cert.Reference2Ideal.Facts] [hPre_listed : Cert.Pre_listed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_listed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_on_settled_pre_noise [hKernelIdeal : Cert.KernelIdeal.Facts] [hReferenceIdeal : Cert.ReferenceIdeal.Facts] [hPre_noise : Cert.Pre_noise.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_noise m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v12_0) i = v0 c i)
          ∧ (∀ i : (⟨2, ![4096, 1]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v12_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v12) i = v0 c i)
          ∧ (∀ i : (⟨2, ![4096, 1]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v31) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_listed : Cert.Pre_listed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_noise : Cert.Pre_noise.Facts) (hPre_listed : Cert.Pre_listed.Facts) (hOn_settled : Cert.On_settled.Facts),
    quiescent_Kernel (hKernel := hKernel)
    ∧ quiescent_KernelIdeal (hKernelIdeal := hKernelIdeal)
    ∧ quiescent_KernelIdeal_pre_noise (hKernelIdeal := hKernelIdeal) (hPre_noise := hPre_noise)
    ∧ quiescent_ReferenceIdeal (hReferenceIdeal := hReferenceIdeal)
    ∧ quiescent_ReferenceIdeal_pre_noise (hReferenceIdeal := hReferenceIdeal) (hPre_noise := hPre_noise)
    ∧ quiescent_Kernel2 (hKernel2 := hKernel2) (hPre_listed := hPre_listed)
    ∧ quiescent_Kernel2Ideal (hKernel2Ideal := hKernel2Ideal) (hPre_listed := hPre_listed)
    ∧ quiescent_Reference2Ideal (hReference2Ideal := hReference2Ideal)
    ∧ quiescent_Reference2Ideal_pre_listed (hReference2Ideal := hReference2Ideal) (hPre_listed := hPre_listed)
    ∧ preserves_Kernel_KernelIdeal
    ∧ algebraic_KernelIdeal_ReferenceIdeal_on_settled_pre_noise (hKernelIdeal := hKernelIdeal) (hReferenceIdeal := hReferenceIdeal) (hPre_noise := hPre_noise) (hOn_settled := hOn_settled)
    ∧ preserves_Kernel2_Kernel2Ideal
    ∧ algebraic_Kernel2Ideal_Reference2Ideal (hKernel2Ideal := hKernel2Ideal) (hReference2Ideal := hReference2Ideal) (hPre_listed := hPre_listed)
-- ==== On_settled.lean ====
abbrev S4096x16384 : Shape := ⟨2, ![4096, 16384]⟩
abbrev S16384x2 : Shape := ⟨2, ![16384, 2]⟩
abbrev S_ : Shape := ⟨0, ![]⟩
abbrev S4096 : Shape := ⟨1, ![4096]⟩
abbrev S4096x1 : Shape := ⟨2, ![4096, 1]⟩
abbrev S4096x3 : Shape := ⟨2, ![4096, 3]⟩

class Facts : Prop where
  natLt_8_32 : 8 < 32
  bcast_S_S4096x16384 : S_.BroadcastsInDim S4096x16384 (![] : Fin 0 → Fin S4096x16384.rank)
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  natLt_1_32 : 1 < 32
  bcast_S4096x1_S4096x3_0_1 : S4096x1.BroadcastsInDim S4096x3 (![0, 1] : Fin 2 → Fin S4096x3.rank)

variable [Facts]

def fn_part1 {F : FTy → Type} [FloatOps F] (main_v15 : IVec S4096x1 32) (main_v17 : IVec S4096x1 1) : IVec S4096x3 1 × IVec S4096x1 1 :=
  let main_v18 : IVec S4096x3 1 := broadcastInDim S4096x3 ![0, 1] bcast_S4096x1_S4096x3_0_1 main_v17
  let main_v19 : IVec S4096x1 1 := cmpi .eq main_v15 main_v15
  (main_v18, main_v19)

def fn {F : FTy → Type} [FloatOps F] (main_arg0 : FVec F S4096x16384 .f32) (main_arg1 : FVec F S4096x16384 .f32) (main_arg2 : IVec S4096x16384 8) (main_arg3 : FVec F S16384x2 .f32) : IVec S4096x3 1 × IVec S4096x1 1 :=
  let main_v0 : IVec S4096x16384 32 := (extui 32 · natLt_8_32) main_arg2
  let main_v1 : FVec F S4096x16384 .f32 := sitofp .f32 main_v0
  let main_cst : FVec F S_ .f32 := constant S_ .f32 0x3DA34C21#32
  let main_v2 : FVec F S4096x16384 .f32 := broadcastInDim S4096x16384 ![] bcast_S_S4096x16384 main_cst
  let main_v3 : FVec F S4096x16384 .f32 := mulf main_v1 main_v2
  let main_cst_0 : FVec F S_ .f32 := constant S_ .f32 0xC08C7B28#32
  let main_v4 : FVec F S4096x16384 .f32 := broadcastInDim S4096x16384 ![] bcast_S_S4096x16384 main_cst_0
  let main_v5 : FVec F S4096x16384 .f32 := addf main_v3 main_v4
  let main_v6 : FVec F S4096x16384 .f32 := addf main_arg0 main_v5
  let main_cst_1 : FVec F S_ .f32 := constant S_ .f32 0xFF800000#32
  let main_v7 : FVec F S4096 .f32 := (fun x v => Host.reduce FloatOps.maximumf x v reducesTo_S4096x16384_S4096_d1 h_S_) main_v6 main_cst_1
  let main_v8 : FVec F S4096x1 .f32 := broadcastInDim S4096x1 ![0] bcast_S4096_S4096x1_0 main_v7
  let main_cst_2 : FVec F S_ .f32 := constant S_ .f32 0x3DA3570C#32
  let main_v9 : FVec F S4096x1 .f32 := broadcastInDim S4096x1 ![] bcast_S_S4096x1 main_cst_2
  let main_v10 : FVec F S4096x1 .f32 := subf main_v8 main_v9
  let main_v11 : FVec F S4096x16384 .f32 := broadcastInDim S4096x16384 ![0, 1] bcast_S4096x1_S4096x16384_0_1 main_v10
  let main_v12 : IVec S4096x16384 1 := cmpf .oge main_v6 main_v11
  let main_v13 : IVec S4096x16384 32 := (extui 32 · natLt_1_32) main_v12
  let main_c : IVec S_ 32 := constantI S_ 32 0#32
  let main_v14 : IVec S4096 32 := (fun x v => Host.reduce IntOp.addi x v reducesTo_S4096x16384_S4096_d1 h_S_) main_v13 main_c
  let main_v15 : IVec S4096x1 32 := broadcastInDim S4096x1 ![0] bcast_S4096_S4096x1_0 main_v14
  let main_c_3 : IVec S_ 32 := constantI S_ 32 1#32
  let main_v16 : IVec S4096x1 32 := broadcastInDim S4096x1 ![] bcast_S_S4096x1 main_c_3
  let main_v17 : IVec S4096x1 1 := cmpi .eq main_v15 main_v16
  fn_part1 (F := F) main_v15 main_v17
-- ==== Pre_listed.lean ====
abbrev S4096x16384 : Shape := ⟨2, ![4096, 16384]⟩
abbrev S16384x2 : Shape := ⟨2, ![16384, 2]⟩
abbrev S4096x3 : Shape := ⟨2, ![4096, 3]⟩
abbrev S4096x1 : Shape := ⟨2, ![4096, 1]⟩
abbrev S512 : Shape := ⟨1, ![512]⟩
abbrev S1 : Shape := ⟨1, ![1]⟩
abbrev S4096 : Shape := ⟨1, ![4096]⟩
abbrev S1x512 : Shape := ⟨2, ![1, 512]⟩
abbrev S1x1 : Shape := ⟨2, ![1, 1]⟩
abbrev S_ : Shape := ⟨0, ![]⟩
abbrev S4096x512 : Shape := ⟨2, ![4096, 512]⟩

class Facts : Prop where
  bcast_S4096_S4096x1_0 : S4096.BroadcastsInDim S4096x1 (![0] : Fin 1 → Fin S4096x1.rank)
  bcast_S512_S1x512_1 : S512.BroadcastsInDim S1x512 (![1] : Fin 1 → Fin S1x512.rank)
  bcast_S1_S1x1_1 : S1.BroadcastsInDim S1x1 (![1] : Fin 1 → Fin S1x1.rank)
  bcast_S_S1x512 : S_.BroadcastsInDim S1x512 (![] : Fin 0 → Fin S1x512.rank)
  bcast_S_S1x1 : S_.BroadcastsInDim S1x1 (![] : Fin 0 → Fin S1x1.rank)
  bcast_S1x1_S1x512_0_1 : S1x1.BroadcastsInDim S1x512 (![0, 1] : Fin 2 → Fin S1x512.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  bcast_S4096x1_S4096x512_0_1 : S4096x1.BroadcastsInDim S4096x512 (![0, 1] : Fin 2 → Fin S4096x512.rank)
  bcast_S1x512_S4096x512_0_1 : S1x512.BroadcastsInDim S4096x512 (![0, 1] : Fin 2 → Fin S4096x512.rank)

variable [Facts]

def fn_part2 {F : FTy → Type} [FloatOps F] (main_v37 : IVec S4096x512 1) (main_v40 : IVec S4096x512 1) : IVec S4096x512 1 :=
  let main_v41 : IVec S4096x512 1 := andi main_v40 main_v37
  main_v41

def fn_part1 {F : FTy → Type} [FloatOps F] (main_arg4 : IVec S4096x1 32) (main_arg7 : IVec S4096x1 32) (main_v1 : IVec S4096x1 32) (main_v3 : IVec S1x512 32) (main_v4 : IVec S1x512 32) (main_v5 : IVec S1x1 32) (main_v18 : IVec S1x512 1) (main_c_3 : IVec S_ 32) : IVec S4096x512 1 :=
  let main_v19 : IVec S4096x1 32 := broadcastInDim S4096x1 ![] bcast_S_S4096x1 main_c_3
  let main_v20 : IVec S4096x1 1 := cmpi .sle main_arg4 main_v19
  let main_c_4 : IVec S_ 32 := constantI S_ 32 0#32
  let main_v21 : IVec S4096x1 32 := broadcastInDim S4096x1 ![] bcast_S_S4096x1 main_c_4
  let main_v22 : IVec S4096x1 1 := cmpi .sge main_arg7 main_v21
  let main_v23 : IVec S4096x1 32 := broadcastInDim S4096x1 ![0, 1] bcast_S1x1_S4096x1_0_1 main_v5
  let main_v24 : IVec S4096x1 1 := cmpi .slt main_arg7 main_v23
  let main_v25 : IVec S4096x1 1 := andi main_v22 main_v24
  let main_v26 : IVec S4096x1 1 := ori main_v20 main_v25
  let main_c_5 : IVec S_ 32 := constantI S_ 32 0#32
  let main_v27 : IVec S4096x1 32 := broadcastInDim S4096x1 ![] bcast_S_S4096x1 main_c_5
  let main_v28 : IVec S4096x1 1 := cmpi .sle main_arg4 main_v27
  let main_v29 : IVec S4096x512 32 := broadcastInDim S4096x512 ![0, 1] bcast_S4096x1_S4096x512_0_1 main_arg7
  let main_v30 : IVec S4096x512 32 := broadcastInDim S4096x512 ![0, 1] bcast_S1x512_S4096x512_0_1 main_v3
  let main_v31 : IVec S4096x512 1 := cmpi .ne main_v29 main_v30
  let main_v32 : IVec S4096x512 1 := broadcastInDim S4096x512 ![0, 1] bcast_S4096x1_S4096x512_0_1 main_v28
  let main_v33 : IVec S4096x512 1 := ori main_v32 main_v31
  let main_v34 : IVec S4096x512 32 := broadcastInDim S4096x512 ![0, 1] bcast_S1x512_S4096x512_0_1 main_v4
  let main_v35 : IVec S4096x512 32 := broadcastInDim S4096x512 ![0, 1] bcast_S4096x1_S4096x512_0_1 main_v1
  let main_v36 : IVec S4096x512 1 := cmpi .eq main_v34 main_v35
  let main_v37 : IVec S4096x512 1 := ori main_v33 main_v36
  let main_v38 : IVec S4096x512 1 := broadcastInDim S4096x512 ![0, 1] bcast_S1x512_S4096x512_0_1 main_v18
  let main_v39 : IVec S4096x512 1 := broadcastInDim S4096x512 ![0, 1] bcast_S4096x1_S4096x512_0_1 main_v26
  let main_v40 : IVec S4096x512 1 := andi main_v38 main_v39
  fn_part2 (F := F) main_v37 main_v40

def fn {F : FTy → Type} [FloatOps F] (main_arg0 : FVec F S4096x16384 .f32) (main_arg1 : FVec F S4096x16384 .f32) (main_arg2 : FVec F S16384x2 .f32) (main_arg3 : FVec F S4096x3 .f32) (main_arg4 : IVec S4096x1 32) (main_arg5 : IVec S512 32) (main_arg6 : IVec S1 32) (main_arg7 : IVec S4096x1 32) : IVec S4096x512 1 :=
  let main_v0 : IVec S4096 32 := iotaInDim S4096 32 0
  let main_v1 : IVec S4096x1 32 := broadcastInDim S4096x1 ![0] bcast_S4096_S4096x1_0 main_v0
  let main_v2 : IVec S512 32 := iotaInDim S512 32 0
  let main_v3 : IVec S1x512 32 := broadcastInDim S1x512 ![1] bcast_S512_S1x512_1 main_v2
  let main_v4 : IVec S1x512 32 := broadcastInDim S1x512 ![1] bcast_S512_S1x512_1 main_arg5
  let main_v5 : IVec S1x1 32 := broadcastInDim S1x1 ![1] bcast_S1_S1x1_1 main_arg6
  let main_c : IVec S_ 32 := constantI S_ 32 0#32
  let main_v6 : IVec S1x512 32 := broadcastInDim S1x512 ![] bcast_S_S1x512 main_c
  let main_v7 : IVec S1x512 1 := cmpi .sge main_v4 main_v6
  let main_c_0 : IVec S_ 32 := constantI S_ 32 4096#32
  let main_v8 : IVec S1x512 32 := broadcastInDim S1x512 ![] bcast_S_S1x512 main_c_0
  let main_v9 : IVec S1x512 1 := cmpi .slt main_v4 main_v8
  let main_v10 : IVec S1x512 1 := andi main_v7 main_v9
  let main_c_1 : IVec S_ 32 := constantI S_ 32 0#32
  let main_v11 : IVec S1x1 32 := broadcastInDim S1x1 ![] bcast_S_S1x1 main_c_1
  let main_v12 : IVec S1x1 1 := cmpi .sge main_v5 main_v11
  let main_v13 : IVec S1x512 1 := broadcastInDim S1x512 ![0, 1] bcast_S1x1_S1x512_0_1 main_v12
  let main_v14 : IVec S1x512 1 := andi main_v10 main_v13
  let main_c_2 : IVec S_ 32 := constantI S_ 32 512#32
  let main_v15 : IVec S1x1 32 := broadcastInDim S1x1 ![] bcast_S_S1x1 main_c_2
  let main_v16 : IVec S1x1 1 := cmpi .sle main_v5 main_v15
  let main_v17 : IVec S1x512 1 := broadcastInDim S1x512 ![0, 1] bcast_S1x1_S1x512_0_1 main_v16
  let main_v18 : IVec S1x512 1 := andi main_v14 main_v17
  let main_c_3 : IVec S_ 32 := constantI S_ 32 0#32
  fn_part1 (F := F) main_arg4 main_arg7 main_v1 main_v3 main_v4 main_v5 main_v18 main_c_3
-- ==== Pre_noise.lean ====
abbrev S4096x16384 : Shape := ⟨2, ![4096, 16384]⟩
abbrev S16384x2 : Shape := ⟨2, ![16384, 2]⟩
abbrev S_ : Shape := ⟨0, ![]⟩

class Facts : Prop where
  natLt_8_32 : 8 < 32
  bcast_S_S4096x16384 : S_.BroadcastsInDim S4096x16384 (![] : Fin 0 → Fin S4096x16384.rank)

variable [Facts]

def fn {F : FTy → Type} [FloatOps F] (main_arg0 : FVec F S4096x16384 .f32) (main_arg1 : FVec F S4096x16384 .f32) (main_arg2 : IVec S4096x16384 8) (main_arg3 : FVec F S16384x2 .f32) : IVec S4096x16384 1 :=
  let main_v0 : IVec S4096x16384 32 := (extui 32 · natLt_8_32) main_arg2
  let main_v1 : FVec F S4096x16384 .f32 := sitofp .f32 main_v0
  let main_cst : FVec F S_ .f32 := constant S_ .f32 0x3DA34C21#32
  let main_v2 : FVec F S4096x16384 .f32 := broadcastInDim S4096x16384 ![] bcast_S_S4096x16384 main_cst
  let main_v3 : FVec F S4096x16384 .f32 := mulf main_v1 main_v2
  let main_cst_0 : FVec F S_ .f32 := constant S_ .f32 0xC08C7B28#32
  let main_v4 : FVec F S4096x16384 .f32 := broadcastInDim S4096x16384 ![] bcast_S_S4096x16384 main_cst_0
  let main_v5 : FVec F S4096x16384 .f32 := addf main_v3 main_v4
  let main_v6 : IVec S4096x16384 1 := cmpf .ole main_arg1 main_v5
  let main_cst_1 : FVec F S_ .f32 := constant S_ .f32 0x3DA3570C#32
  let main_v7 : FVec F S4096x16384 .f32 := broadcastInDim S4096x16384 ![] bcast_S_S4096x16384 main_cst_1
  let main_v8 : FVec F S4096x16384 .f32 := addf main_arg1 main_v7
  let main_v9 : IVec S4096x16384 1 := cmpf .ole main_v5 main_v8
  let main_v10 : IVec S4096x16384 1 := andi main_v6 main_v9
  main_v10
-- ==== Kernel.lean ====
abbrev S4096x16384 : Shape := ⟨2, ![4096, 16384]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S128x128 : Shape := ⟨2, ![128, 128]⟩
abbrev S128x256 : Shape := ⟨2, ![128, 256]⟩
abbrev S4096x3 : Shape := ⟨2, ![4096, 3]⟩
abbrev S4096x1 : Shape := ⟨2, ![4096, 1]⟩
abbrev S128x16384 : Shape := ⟨2, ![128, 16384]⟩
abbrev S128x3 : Shape := ⟨2, ![128, 3]⟩
abbrev S128x1 : Shape := ⟨2, ![128, 1]⟩
abbrev S128 : Shape := ⟨1, ![128]⟩
abbrev S128x2 : Shape := ⟨2, ![128, 2]⟩

abbrev nBuf : Space → Nat
  | .hbm => 19
  | .vmem => 10
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .i8⟩
  | .hbm, ⟨3, _⟩ => ⟨S16384x2, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S16384x2, .f32⟩
  | .hbm, ⟨10, _⟩ => ⟨S16384x1, .f32⟩
  | .hbm, ⟨11, _⟩ => ⟨S16384, .f32⟩
  | .hbm, ⟨12, _⟩ => ⟨S128x128, .f32⟩
  | .hbm, ⟨13, _⟩ => ⟨S16384x1, .f32⟩
  | .hbm, ⟨14, _⟩ => ⟨S16384, .f32⟩
  | .hbm, ⟨15, _⟩ => ⟨S128x128, .f32⟩
  | .hbm, ⟨16, _⟩ => ⟨S128x256, .f32⟩
  | .hbm, ⟨17, _⟩ => ⟨S4096x3, .f32⟩
  | .hbm, ⟨18, _⟩ => ⟨S4096x1, .i32⟩
  | .local _ .vmem, ⟨0, _⟩ => ⟨S128x16384, .f32⟩
  | .local _ .vmem, ⟨1, _⟩ => ⟨S128x16384, .f32⟩
  | .local _ .vmem, ⟨2, _⟩ => ⟨S128x16384, .i8⟩
  | .local _ .vmem, ⟨3, _⟩ => ⟨S128x16384, .i8⟩
  | .local _ .vmem, ⟨4, _⟩ => ⟨S16384x2, .f32⟩
  | .local _ .vmem, ⟨5, _⟩ => ⟨S128x256, .f32⟩
  | .local _ .vmem, ⟨6, _⟩ => ⟨S128x3, .f32⟩
  | .local _ .vmem, ⟨7, _⟩ => ⟨S128x3, .f32⟩
  | .local _ .vmem, ⟨8, _⟩ => ⟨S128x1, .i32⟩
  | .local _ .vmem, ⟨9, _⟩ => ⟨S128x1, .i32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x16384 : Shape := ⟨2, ![4096, 16384]⟩
abbrev S16384x2 : Shape := ⟨2, ![16384, 2]⟩
abbrev S_ : Shape := ⟨0, ![]⟩
abbrev S4096 : Shape := ⟨1, ![4096]⟩
abbrev S4096x1 : Shape := ⟨2, ![4096, 1]⟩
abbrev S16384 : Shape := ⟨1, ![16384]⟩
abbrev S1x16384 : Shape := ⟨2, ![1, 16384]⟩
abbrev S4096x2 : Shape := ⟨2, ![4096, 2]⟩
abbrev S4096x3 : Shape := ⟨2, ![4096, 3]⟩

abbrev nBuf : Space → Nat
  | .hbm => 46
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .i8⟩
  | .hbm, ⟨3, _⟩ => ⟨S16384x2, .f32⟩
  | .hbm, ⟨4, _⟩ => ⟨S4096x16384, .f32⟩
  | .hbm, ⟨5, _⟩ => ⟨S4096x16384, .i32⟩
  | .hbm, ⟨6, _⟩ => ⟨S_, .f32⟩
  | .hbm, ⟨7, _⟩ => ⟨S_, .i32⟩
  | .hbm, ⟨8, _⟩ => ⟨S4096, .f32⟩
  | .hbm, ⟨9, _⟩ => ⟨S4096, .i32⟩
  | .hbm, ⟨10, _⟩ => ⟨S4096x1, .i32⟩
  | .hbm, ⟨11, _⟩ => ⟨S16384, .i32⟩
  | .hbm, ⟨12, _⟩ => ⟨S1x16384, .i32⟩
  | .hbm, ⟨13, _⟩ => ⟨S4096x16384, .i32⟩
  | .hbm, ⟨14, _⟩ => ⟨S4096x16384, .i32⟩
  | .hbm, ⟨15, _⟩ => ⟨S4096x16384, .i1⟩
  | .hbm, ⟨16, _⟩ => ⟨S4096x16384, .f32⟩
  | .hbm, ⟨17, _⟩ => ⟨S4096x2, .f32⟩
  | .hbm, ⟨18, _⟩ => ⟨S4096x1, .i32⟩
  | .hbm, ⟨19, _⟩ => ⟨S4096x1, .f32⟩
  | .hbm, ⟨20, _⟩ => ⟨S4096x3, .f32⟩
  | .hbm, ⟨21, _⟩ => ⟨S4096x16384, .i32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S_, .f32⟩
  | .hbm, ⟨27, _⟩ => ⟨S4096x16384, .f32⟩
  | .hbm, ⟨28, _⟩ => ⟨S4096x16384, .f32⟩
  | .hbm, ⟨29, _⟩ => ⟨S4096x16384, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x16384, .f32⟩
  | .hbm, ⟨37, _⟩ => ⟨S4096x16384, .i1⟩
  | .hbm, ⟨38, _⟩ => ⟨S4096x16384, .i32⟩
  | .hbm, ⟨39, _⟩ => ⟨S_, .i32⟩
  | .hbm, ⟨40, _⟩ => ⟨S4096, .i32⟩
  | .hbm, ⟨41, _⟩ => ⟨S4096x1, .i32⟩
  | .hbm, ⟨42, _⟩ => ⟨S_, .i32⟩
  | .hbm, ⟨43, _⟩ => ⟨S4096x1, .i32⟩
  | .hbm, ⟨44, _⟩ => ⟨S4096x1, .i1⟩
  | .hbm, ⟨45, _⟩ => ⟨S4096x1, .i32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel2.lean ====
abbrev S4096x16384 : Shape := ⟨2, ![4096, 16384]⟩
abbrev S16384x2 : Shape := ⟨2, ![16384, 2]⟩
abbrev S4096x3 : Shape := ⟨2, ![4096, 3]⟩
abbrev S4096x1 : Shape := ⟨2, ![4096, 1]⟩
abbrev S512 : Shape := ⟨1, ![512]⟩
abbrev S1 : Shape := ⟨1, ![1]⟩
abbrev S4096x1x16384 : Shape := ⟨3, ![4096, 1, 16384]⟩
abbrev S2x16384 : Shape := ⟨2, ![2, 16384]⟩
abbrev S2x64x16384 : Shape := ⟨3, ![2, 64, 16384]⟩
abbrev S512x3 : Shape := ⟨2, ![512, 3]⟩
abbrev S2 : Shape := ⟨1, ![2]⟩
abbrev S_ : Shape := ⟨0, ![]⟩
abbrev S1x1x16384 : Shape := ⟨3, ![1, 1, 16384]⟩
abbrev S1x16384 : Shape := ⟨2, ![1, 16384]⟩
abbrev S1x64x16384 : Shape := ⟨3, ![1, 64, 16384]⟩
abbrev S64x16384 : Shape := ⟨2, ![64, 16384]⟩
abbrev S64 : Shape := ⟨1, ![64]⟩
abbrev S64x1 : Shape := ⟨2, ![64, 1]⟩
abbrev S64x3 : Shape := ⟨2, ![64, 3]⟩
abbrev S4096x512 : Shape := ⟨2, ![4096, 512]⟩

abbrev nBuf : Space → Nat
  | .hbm => 10
  | .vmem => 8
  | .smem => 2
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x2, .f32⟩
  | .hbm, ⟨3, _⟩ => ⟨S4096x3, .f32⟩
  | .hbm, ⟨4, _⟩ => ⟨S4096x1, .i32⟩
  | .hbm, ⟨5, _⟩ => ⟨S4096x1, .i32⟩
  | .hbm, ⟨6, _⟩ => ⟨S4096x1x16384, .f32⟩
  | .hbm, ⟨7, _⟩ => ⟨S2x16384, .f32⟩
  | .hbm, ⟨8, _⟩ => ⟨S4096x1x16384, .f32⟩
  | .hbm, ⟨9, _⟩ => ⟨S4096x3, .f32⟩
  | .local _ .vmem, ⟨0, _⟩ => ⟨S2x16384, .f32⟩
  | .local _ .vmem, ⟨1, _⟩ => ⟨S4096x3, .f32⟩
  | .local _ .vmem, ⟨2, _⟩ => ⟨S4096x1, .i32⟩
  | .local _ .vmem, ⟨3, _⟩ => ⟨S4096x1, .i32⟩
  | .local _ .vmem, ⟨4, _⟩ => ⟨S4096x3, .f32⟩
  | .local _ .vmem, ⟨5, _⟩ => ⟨S2x64x16384, .f32⟩
  | .local _ .vmem, ⟨6, _⟩ => ⟨S2x64x16384, .f32⟩
  | .local _ .vmem, ⟨7, _⟩ => ⟨S512x3, .f32⟩
  | .local _ .smem, ⟨0, _⟩ => ⟨S512, .i32⟩
  | .local _ .smem, ⟨1, _⟩ => ⟨S1, .i32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32_27 : BitVec 32 := 0#32
  let c64_i32_28 : BitVec 32 := 64#32
  let v50 : BitVec 32 := Scalar.addi c0_i32_27 c64_i32_28
  let c1_i32_29 : BitVec 32 := 1#32
  ⟨c0_i32_27, v50, c1_i32_29⟩
def k0_off1 (k0_t1 : Fin k0_t1_loop.trips) : Fin 1 → Nat :=
  let c0_i32_31 : BitVec 32 := 0#32
  let c0_i32_27 : BitVec 32 := 0#32
  let c1_i32_29 : BitVec 32 := 1#32
  let arg15 : BitVec 32 := Scf.iv c0_i32_27 c1_i32_29 k0_t1
  let v51 : BitVec 32 := Scalar.addi c0_i32_31 arg15
  let v52 : Index := Scalar.indexCast v51
  ![v52.toNat]
def k0_off2 (k0_t1 : Fin k0_t1_loop.trips) : Fin 3 → Nat :=
  let c0_i32_32 : BitVec 32 := 0#32
  let c0_i32_27 : BitVec 32 := 0#32
  let c1_i32_29 : BitVec 32 := 1#32
  let arg15 : BitVec 32 := Scf.iv c0_i32_27 c1_i32_29 k0_t1
  let c0_i32_34 : BitVec 32 := 0#32
  ![0, arg15.toNat, 0]
def k0_off3 (v53 : BitVec 32) : Fin 3 → Nat :=
  let c0_i32_35 : BitVec 32 := 0#32
  let c0_i32_36 : BitVec 32 := 0#32
  ![v53.toNat, 0, 0]
def k0_cond1 (v0 : BitVec 32) : BitVec 1 :=
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .ne v25 c0_i32_9
  v26

def k0_chk1 (v0 : BitVec 32) (v53 : BitVec 32) : Prop :=
  (∀ (k0_h1 : k0_cond1 v0 = 1#1), ∀ a, (k0_off3 v53) a + S1x1x16384.size a ≤ S4096x1x16384.size a)
theorem k0_off3_inb : ∀ (v0 : BitVec 32) (v53 : BitVec 32) (k0_hw1 : k0_chk1 v0 v53), ∀ (k0_h1 : k0_cond1 v0 = 1#1), ∀ a, (k0_off3 v53) a + S1x1x16384.size a ≤ S4096x1x16384.size a := fun v0 v53 k0_hw1 k0_h1 => k0_hw1 k0_h1

def k0_off4 (k0_t1 : Fin k0_t1_loop.trips) : Fin 3 → Nat :=
  let c0_i32_37 : BitVec 32 := 0#32
  let c0_i32_27 : BitVec 32 := 0#32
  let c1_i32_29 : BitVec 32 := 1#32
  let arg15 : BitVec 32 := Scf.iv c0_i32_27 c1_i32_29 k0_t1
  let c0_i32_39 : BitVec 32 := 0#32
  ![0, arg15.toNat, 0]
@[reducible] def k0_t2_loop (v0 : BitVec 32) : Scf.Loop 32 :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_13 : BitVec 32 := 1#32
  ⟨c0_i32_10, v31, c1_i32_13⟩

@[reducible] def k0_t3_loop : Scf.Loop 32 :=
  let c0_i32_54 : BitVec 32 := 0#32
  let c64_i32_55 : BitVec 32 := 64#32
  let v102 : BitVec 32 := Scalar.addi c0_i32_54 c64_i32_55
  let c1_i32_56 : BitVec 32 := 1#32
  ⟨c0_i32_54, v102, c1_i32_56⟩
def k0_off5 (v0 : BitVec 32) (k0_t2 : Fin (k0_t2_loop v0).trips) (k0_t3 : Fin k0_t3_loop.trips) : Fin 1 → Nat :=
  let c0_i32_10 : BitVec 32 := 0#32
  let c1_i32_13 : BitVec 32 := 1#32
  let arg15 : BitVec 32 := Scf.iv c0_i32_10 c1_i32_13 k0_t2
  let c1_i32_50 : BitVec 32 := 1#32
  let v99 : BitVec 32 := Scalar.addi arg15 c1_i32_50
  let c64_i32_52 : BitVec 32 := 64#32
  let v101 : BitVec 32 := Scalar.muli v99 c64_i32_52
  let c0_i32_54 : BitVec 32 := 0#32
  let c1_i32_56 : BitVec 32 := 1#32
  let arg17 : BitVec 32 := Scf.iv c0_i32_54 c1_i32_56 k0_t3
  let v104 : BitVec 32 := Scalar.addi v101 arg17
  let v105 : Index := Scalar.indexCast v104
  ![v105.toNat]
def k0_cond2 (v0 : BitVec 32) (k0_t2 : Fin (k0_t2_loop v0).trips) : BitVec 1 :=
  let c0_i32_10 : BitVec 32 := 0#32
  let c1_i32_13 : BitVec 32 := 1#32
  let arg15 : BitVec 32 := Scf.iv c0_i32_10 c1_i32_13 k0_t2
  let c1_i32_27 : BitVec 32 := 1#32
  let v51 : BitVec 32 := Scalar.addi arg15 c1_i32_27
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v52 : BitVec 1 := Scalar.cmpi .slt v51 v19
  let v53 : BitVec 32 := Scalar.extui v52
  let c0_i32_28 : BitVec 32 := 0#32
  let v54 : BitVec 1 := Scalar.cmpi .ne v53 c0_i32_28
  v54

def k0_off6 (v0 : BitVec 32) (k0_t2 : Fin (k0_t2_loop v0).trips) : Fin 1 → Nat :=
  let c1_i32_51 : BitVec 32 := 1#32
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let v100 : BitVec 32 := Scalar.subi c1_i32_51 v50
  ![v100.toNat]
def k0_off7 (v0 : BitVec 32) (k0_t2 : Fin (k0_t2_loop v0).trips) (k0_t3 : Fin k0_t3_loop.trips) : Fin 3 → Nat :=
  let c1_i32_51 : BitVec 32 := 1#32
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let v100 : BitVec 32 := Scalar.subi c1_i32_51 v50
  let c0_i32_54 : BitVec 32 := 0#32
  let c1_i32_56 : BitVec 32 := 1#32
  let arg17 : BitVec 32 := Scf.iv c0_i32_54 c1_i32_56 k0_t3
  let c0_i32_58 : BitVec 32 := 0#32
  ![v100.toNat, arg17.toNat, 0]
def k0_off8 (v106 : BitVec 32) : Fin 3 → Nat :=
  let c0_i32_59 : BitVec 32 := 0#32
  let c0_i32_60 : BitVec 32 := 0#32
  ![v106.toNat, 0, 0]

def k0_chk3 (v0 : BitVec 32) (k0_t2 : Fin (k0_t2_loop v0).trips) (v106 : BitVec 32) : Prop :=
  (∀ (k0_h2 : k0_cond2 v0 k0_t2 = 1#1), ∀ a, (k0_off8 v106) a + S1x1x16384.size a ≤ S4096x1x16384.size a)
theorem k0_off8_inb : ∀ (v0 : BitVec 32) (k0_t2 : Fin (k0_t2_loop v0).trips) (v106 : BitVec 32) (k0_hw3 : k0_chk3 v0 k0_t2 v106), ∀ (k0_h2 : k0_cond2 v0 k0_t2 = 1#1), ∀ a, (k0_off8 v106) a + S1x1x16384.size a ≤ S4096x1x16384.size a := fun v0 k0_t2 v106 k0_hw3 k0_h2 => k0_hw3 k0_h2

def k0_off9 (v0 : BitVec 32) (k0_t2 : Fin (k0_t2_loop v0).trips) : Fin 1 → Nat :=
  let c1_i32_51 : BitVec 32 := 1#32
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let v100 : BitVec 32 := Scalar.subi c1_i32_51 v50
  ![v100.toNat]
def k0_off10 (v0 : BitVec 32) (k0_t2 : Fin (k0_t2_loop v0).trips) (k0_t3 : Fin k0_t3_loop.trips) : Fin 3 → Nat :=
  let c1_i32_51 : BitVec 32 := 1#32
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let v100 : BitVec 32 := Scalar.subi c1_i32_51 v50
  let c0_i32_54 : BitVec 32 := 0#32
  let c1_i32_56 : BitVec 32 := 1#32
  let arg17 : BitVec 32 := Scf.iv c0_i32_54 c1_i32_56 k0_t3
  let c0_i32_61 : BitVec 32 := 0#32
  ![v100.toNat, arg17.toNat, 0]
@[reducible] def k0_t4_loop : Scf.Loop 32 :=
  let c0_i32_30 : BitVec 32 := 0#32
  let c64_i32_31 : BitVec 32 := 64#32
  let v55 : BitVec 32 := Scalar.addi c0_i32_30 c64_i32_31
  let c1_i32_32 : BitVec 32 := 1#32
  ⟨c0_i32_30, v55, c1_i32_32⟩
def k0_off11 (v0 : BitVec 32) (k0_t2 : Fin (k0_t2_loop v0).trips) : Fin 1 → Nat :=
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  ![v50.toNat]
def k0_off12 (v0 : BitVec 32) (k0_t2 : Fin (k0_t2_loop v0).trips) : Fin 3 → Nat :=
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let c0_i32_51 : BitVec 32 := 0#32
  let c0_i32_52 : BitVec 32 := 0#32
  ![v50.toNat, 0, 0]
def k0_off13 (v0 : BitVec 32) (k0_t2 : Fin (k0_t2_loop v0).trips) : Fin 3 → Nat :=
  let c0_i32_10 : BitVec 32 := 0#32
  let c1_i32_13 : BitVec 32 := 1#32
  let arg15 : BitVec 32 := Scf.iv c0_i32_10 c1_i32_13 k0_t2
  let c2_i32 : BitVec 32 := 2#32
  let v50 : BitVec 32 := Scalar.remsi arg15 c2_i32
  let v57 : Index := Scalar.indexCast v50
  let c0_34 : Index := 0#32
  let c0_35 : Index := 0#32
  ![v57.toNat, 0, 0]
def k0_off14 (v0 : BitVec 32) (k0_t2 : Fin (k0_t2_loop v0).trips) : Fin 2 → Nat :=
  let c0_i32_10 : BitVec 32 := 0#32
  let c1_i32_13 : BitVec 32 := 1#32
  let arg15 : BitVec 32 := Scf.iv c0_i32_10 c1_i32_13 k0_t2
  let c64_i32_47 : BitVec 32 := 64#32
  let v94 : BitVec 32 := Scalar.muli arg15 c64_i32_47
  let v95 : Index := Scalar.indexCast v94
  let c0_48 : Index := 0#32
  ![v95.toNat, 0]
@[reducible] def k0_t5_loop (v0 : BitVec 32) : Scf.Loop 32 :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let v28 : BitVec 32 := Scalar.addi c0_i32_10 v27
  let c1_i32_14 : BitVec 32 := 1#32
  ⟨v31, v28, c1_i32_14⟩
@[reducible] def k0_t6_loop : Scf.Loop 32 :=
  let c0_i32_54 : BitVec 32 := 0#32
  let c64_i32_55 : BitVec 32 := 64#32
  let v102 : BitVec 32 := Scalar.addi c0_i32_54 c64_i32_55
  let c1_i32_56 : BitVec 32 := 1#32
  ⟨c0_i32_54, v102, c1_i32_56⟩
def k0_off15 (v0 : BitVec 32) (k0_t5 : Fin (k0_t5_loop v0).trips) (k0_t6 : Fin k0_t6_loop.trips) : Fin 1 → Nat :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c1_i32_50 : BitVec 32 := 1#32
  let v99 : BitVec 32 := Scalar.addi arg15 c1_i32_50
  let c64_i32_52 : BitVec 32 := 64#32
  let v101 : BitVec 32 := Scalar.muli v99 c64_i32_52
  let c0_i32_54 : BitVec 32 := 0#32
  let c1_i32_56 : BitVec 32 := 1#32
  let arg17 : BitVec 32 := Scf.iv c0_i32_54 c1_i32_56 k0_t6
  let v104 : BitVec 32 := Scalar.addi v101 arg17
  let v105 : Index := Scalar.indexCast v104
  ![v105.toNat]
def k0_cond3 (v0 : BitVec 32) (k0_t5 : Fin (k0_t5_loop v0).trips) : BitVec 1 :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c1_i32_27 : BitVec 32 := 1#32
  let v51 : BitVec 32 := Scalar.addi arg15 c1_i32_27
  let v52 : BitVec 1 := Scalar.cmpi .slt v51 v19
  let v53 : BitVec 32 := Scalar.extui v52
  let c0_i32_28 : BitVec 32 := 0#32
  let v54 : BitVec 1 := Scalar.cmpi .ne v53 c0_i32_28
  v54

def k0_off16 (v0 : BitVec 32) (k0_t5 : Fin (k0_t5_loop v0).trips) : Fin 1 → Nat :=
  let c1_i32_51 : BitVec 32 := 1#32
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let v100 : BitVec 32 := Scalar.subi c1_i32_51 v50
  ![v100.toNat]
def k0_off17 (v0 : BitVec 32) (k0_t5 : Fin (k0_t5_loop v0).trips) (k0_t6 : Fin k0_t6_loop.trips) : Fin 3 → Nat :=
  let c1_i32_51 : BitVec 32 := 1#32
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let v100 : BitVec 32 := Scalar.subi c1_i32_51 v50
  let c0_i32_54 : BitVec 32 := 0#32
  let c1_i32_56 : BitVec 32 := 1#32
  let arg17 : BitVec 32 := Scf.iv c0_i32_54 c1_i32_56 k0_t6
  let c0_i32_58 : BitVec 32 := 0#32
  ![v100.toNat, arg17.toNat, 0]
def k0_off18 (v106 : BitVec 32) : Fin 3 → Nat :=
  let c0_i32_59 : BitVec 32 := 0#32
  let c0_i32_60 : BitVec 32 := 0#32
  ![v106.toNat, 0, 0]

def k0_chk4 (v0 : BitVec 32) (k0_t5 : Fin (k0_t5_loop v0).trips) (v106 : BitVec 32) : Prop :=
  (∀ (k0_h3 : k0_cond3 v0 k0_t5 = 1#1), ∀ a, (k0_off18 v106) a + S1x1x16384.size a ≤ S4096x1x16384.size a)
theorem k0_off18_inb : ∀ (v0 : BitVec 32) (k0_t5 : Fin (k0_t5_loop v0).trips) (v106 : BitVec 32) (k0_hw4 : k0_chk4 v0 k0_t5 v106), ∀ (k0_h3 : k0_cond3 v0 k0_t5 = 1#1), ∀ a, (k0_off18 v106) a + S1x1x16384.size a ≤ S4096x1x16384.size a := fun v0 k0_t5 v106 k0_hw4 k0_h3 => k0_hw4 k0_h3

def k0_off19 (v0 : BitVec 32) (k0_t5 : Fin (k0_t5_loop v0).trips) : Fin 1 → Nat :=
  let c1_i32_51 : BitVec 32 := 1#32
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let v100 : BitVec 32 := Scalar.subi c1_i32_51 v50
  ![v100.toNat]
def k0_off20 (v0 : BitVec 32) (k0_t5 : Fin (k0_t5_loop v0).trips) (k0_t6 : Fin k0_t6_loop.trips) : Fin 3 → Nat :=
  let c1_i32_51 : BitVec 32 := 1#32
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let v100 : BitVec 32 := Scalar.subi c1_i32_51 v50
  let c0_i32_54 : BitVec 32 := 0#32
  let c1_i32_56 : BitVec 32 := 1#32
  let arg17 : BitVec 32 := Scf.iv c0_i32_54 c1_i32_56 k0_t6
  let c0_i32_61 : BitVec 32 := 0#32
  ![v100.toNat, arg17.toNat, 0]
@[reducible] def k0_t7_loop : Scf.Loop 32 :=
  let c0_i32_30 : BitVec 32 := 0#32
  let c64_i32_31 : BitVec 32 := 64#32
  let v55 : BitVec 32 := Scalar.addi c0_i32_30 c64_i32_31
  let c1_i32_32 : BitVec 32 := 1#32
  ⟨c0_i32_30, v55, c1_i32_32⟩
def k0_off21 (v0 : BitVec 32) (k0_t5 : Fin (k0_t5_loop v0).trips) : Fin 1 → Nat :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  ![v50.toNat]
def k0_off22 (v0 : BitVec 32) (k0_t5 : Fin (k0_t5_loop v0).trips) : Fin 3 → Nat :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let c0_i32_51 : BitVec 32 := 0#32
  let c0_i32_52 : BitVec 32 := 0#32
  ![v50.toNat, 0, 0]
def k0_off23 (v0 : BitVec 32) (k0_t5 : Fin (k0_t5_loop v0).trips) : Fin 3 → Nat :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c2_i32 : BitVec 32 := 2#32
  let v50 : BitVec 32 := Scalar.remsi arg15 c2_i32
  let v57 : Index := Scalar.indexCast v50
  let c0_34 : Index := 0#32
  let c0_35 : Index := 0#32
  ![v57.toNat, 0, 0]
def k0_off24 (v0 : BitVec 32) (k0_t5 : Fin (k0_t5_loop v0).trips) : Fin 2 → Nat :=
  let c0_i32_10 : BitVec 32 := 0#32
  let c64_i32 : BitVec 32 := 64#32
  let v1 : BitVec 32 := Scalar.addi v0 c64_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c64_i32_0 : BitVec 32 := 64#32
  let c0_i32_2 : BitVec 32 := 0#32
  let v9 : BitVec 1 := Scalar.cmpi .sgt c64_i32_0 c0_i32_2
  let v10 : BitVec 32 := Scalar.extui v9
  let c0_i32_3 : BitVec 32 := 0#32
  let v11 : BitVec 1 := Scalar.cmpi .slt c64_i32_0 c0_i32_3
  let v12 : BitVec 32 := Scalar.extui v11
  let v13 : BitVec 32 := Scalar.subi v10 v12
  let v14 : BitVec 1 := Scalar.cmpi .ne v8 v13
  let v15 : BitVec 32 := Scalar.remsi v2 c64_i32_0
  let c0_i32_4 : BitVec 32 := 0#32
  let v16 : BitVec 1 := Scalar.cmpi .ne v15 c0_i32_4
  let v17 : BitVec 1 := Scalar.andi v14 v16
  let v3 : BitVec 32 := Scalar.divsi v2 c64_i32_0
  let c1_i32_5 : BitVec 32 := 1#32
  let v18 : BitVec 32 := Scalar.subi v3 c1_i32_5
  let v19 : BitVec 32 := Scalar.select v17 v18 v3
  let v27 : BitVec 32 := Scalar.subi v19 c0_i32_10
  let c1_i32_12 : BitVec 32 := 1#32
  let v29 : BitVec 32 := Scalar.divsi v27 c1_i32_12
  let v30 : BitVec 32 := Scalar.muli v29 c1_i32_12
  let v31 : BitVec 32 := Scalar.addi c0_i32_10 v30
  let c1_i32_14 : BitVec 32 := 1#32
  let arg15 : BitVec 32 := Scf.iv v31 c1_i32_14 k0_t5
  let c64_i32_47 : BitVec 32 := 64#32
  let v94 : BitVec 32 := Scalar.muli arg15 c64_i32_47
  let v95 : Index := Scalar.indexCast v94
  let c0_48 : Index := 0#32
  ![v95.toNat, 0]

def k0_chk2 (v0 : BitVec 32) : Prop :=
  ((k0_t2_loop v0).OK) ∧
  (∀ (k0_t2 : Fin (k0_t2_loop v0).trips) (k0_t3 : Fin k0_t3_loop.trips), ∀ (k0_h2 : k0_cond2 v0 k0_t2 = 1#1), ∀ a, (k0_off5 v0 k0_t2 k0_t3) a + S1.size a ≤ S512.size a) ∧
  (∀ k0_t2 : Fin (k0_t2_loop v0).trips, ∀ (k0_h2 : k0_cond2 v0 k0_t2 = 1#1), ∀ a, (k0_off6 v0 k0_t2) a + S1.size a ≤ S2.size a) ∧
  (∀ (k0_t2 : Fin (k0_t2_loop v0).trips) (k0_t3 : Fin k0_t3_loop.trips), ∀ (k0_h2 : k0_cond2 v0 k0_t2 = 1#1), ∀ a, (k0_off7 v0 k0_t2 k0_t3) a + S1x1x16384.size a ≤ S2x64x16384.size a) ∧
  (∀ k0_t2 : Fin (k0_t2_loop v0).trips, ∀ (k0_h2 : k0_cond2 v0 k0_t2 = 1#1), ∀ a, (k0_off9 v0 k0_t2) a + S1.size a ≤ S2.size a) ∧
  (∀ (k0_t2 : Fin (k0_t2_loop v0).trips) (k0_t3 : Fin k0_t3_loop.trips), ∀ (k0_h2 : k0_cond2 v0 k0_t2 = 1#1), ∀ a, (k0_off10 v0 k0_t2 k0_t3) a + S1x1x16384.size a ≤ S2x64x16384.size a) ∧
  (∀ k0_t2 : Fin (k0_t2_loop v0).trips, ∀ a, (k0_off11 v0 k0_t2) a + S1.size a ≤ S2.size a) ∧
  (∀ k0_t2 : Fin (k0_t2_loop v0).trips, ∀ a, (k0_off12 v0 k0_t2) a + S1x1x16384.size a ≤ S2x64x16384.size a) ∧
  (∀ k0_t2 : Fin (k0_t2_loop v0).trips, ∀ a, (k0_off13 v0 k0_t2) a + S1x64x16384.size a ≤ S2x64x16384.size a) ∧
  (∀ k0_t2 : Fin (k0_t2_loop v0).trips, ∀ a, (k0_off14 v0 k0_t2) a + S64x3.size a ≤ S512x3.size a) ∧
  ((k0_t5_loop v0).OK) ∧
  (∀ (k0_t5 : Fin (k0_t5_loop v0).trips) (k0_t6 : Fin k0_t6_loop.trips), ∀ (k0_h3 : k0_cond3 v0 k0_t5 = 1#1), ∀ a, (k0_off15 v0 k0_t5 k0_t6) a + S1.size a ≤ S512.size a) ∧
  (∀ k0_t5 : Fin (k0_t5_loop v0).trips, ∀ (k0_h3 : k0_cond3 v0 k0_t5 = 1#1), ∀ a, (k0_off16 v0 k0_t5) a + S1.size a ≤ S2.size a) ∧
  (∀ (k0_t5 : Fin (k0_t5_loop v0).trips) (k0_t6 : Fin k0_t6_loop.trips), ∀ (k0_h3 : k0_cond3 v0 k0_t5 = 1#1), ∀ a, (k0_off17 v0 k0_t5 k0_t6) a + S1x1x16384.size a ≤ S2x64x16384.size a) ∧
  (∀ k0_t5 : Fin (k0_t5_loop v0).trips, ∀ (k0_h3 : k0_cond3 v0 k0_t5 = 1#1), ∀ a, (k0_off19 v0 k0_t5) a + S1.size a ≤ S2.size a) ∧
  (∀ (k0_t5 : Fin (k0_t5_loop v0).trips) (k0_t6 : Fin k0_t6_loop.trips), ∀ (k0_h3 : k0_cond3 v0 k0_t5 = 1#1), ∀ a, (k0_off20 v0 k0_t5 k0_t6) a + S1x1x16384.size a ≤ S2x64x16384.size a) ∧
  (∀ k0_t5 : Fin (k0_t5_loop v0).trips, ∀ a, (k0_off21 v0 k0_t5) a + S1.size a ≤ S2.size a) ∧
  (∀ k0_t5 : Fin (k0_t5_loop v0).trips, ∀ a, (k0_off22 v0 k0_t5) a + S1x1x16384.size a ≤ S2x64x16384.size a) ∧
  (∀ k0_t5 : Fin (k0_t5_loop v0).trips, ∀ a, (k0_off23 v0 k0_t5) a + S1x64x16384.size a ≤ S2x64x16384.size a) ∧
  (∀ k0_t5 : Fin (k0_t5_loop v0).trips, ∀ a, (k0_off24 v0 k0_t5) a + S64x3.size a ≤ S512x3.size a)
theorem k0_t2_ok : ∀ (v0 : BitVec 32) (k0_hw2 : k0_chk2 v0), (k0_t2_loop v0).OK := fun v0 k0_hw2 => k0_hw2.1
theorem k0_off5_inb : ∀ (v0 : BitVec 32) (k0_hw2 : k0_chk2 v0) (k0_t2 : Fin (k0_t2_loop v0).trips) (k0_t3 : Fin k0_t3_loop.trips), ∀ (k0_h2 : k0_cond2 v0 k0_t2 = 1#1), ∀ a, (k0_off5 v0 k0_t2 k0_t3) a + S1.size a ≤ S512.size a := fun v0 k0_hw2 k0_t2 k0_t3 k0_h2 => k0_hw2.2.1 k0_t2 k0_t3 k0_h2
theorem k0_off6_inb : ∀ (v0 : BitVec 32) (k0_hw2 : k0_chk2 v0) (k0_t2 : Fin (k0_t2_loop v0).trips), ∀ (k0_h2 : k0_cond2 v0 k0_t2 = 1#1), ∀ a, (k0_off6 v0 k0_t2) a + S1.size a ≤ S2.size a := fun v0 k0_hw2 k0_t2 k0_h2 => k0_hw2.2.2.1 k0_t2 k0_h2
theorem k0_off7_inb : ∀ (v0 : BitVec 32) (k0_hw2 : k0_chk2 v0) (k0_t2 : Fin (k0_t2_loop v0).trips) (k0_t3 : Fin k0_t3_loop.trips), ∀ (k0_h2 : k0_cond2 v0 k0_t2 = 1#1), ∀ a, (k0_off7 v0 k0_t2 k0_t3) a + S1x1x16384.size a ≤ S2x64x16384.size a := fun v0 k0_hw2 k0_t2 k0_t3 k0_h2 => k0_hw2.2.2.2.1 k0_t2 k0_t3 k0_h2
theorem k0_off9_inb : ∀ (v0 : BitVec 32) (k0_hw2 : k0_chk2 v0) (k0_t2 : Fin (k0_t2_loop v0).trips), ∀ (k0_h2 : k0_cond2 v0 k0_t2 = 1#1), ∀ a, (k0_off9 v0 k0_t2) a + S1.size a ≤ S2.size a := fun v0 k0_hw2 k0_t2 k0_h2 => k0_hw2.2.2.2.2.1 k0_t2 k0_h2
theorem k0_off10_inb : ∀ (v0 : BitVec 32) (k0_hw2 : k0_chk2 v0) (k0_t2 : Fin (k0_t2_loop v0).trips) (k0_t3 : Fin k0_t3_loop.trips), ∀ (k0_h2 : k0_cond2 v0 k0_t2 = 1#1), ∀ a, (k0_off10 v0 k0_t2 k0_t3) a + S1x1x16384.size a ≤ S2x64x16384.size a := fun v0 k0_hw2 k0_t2 k0_t3 k0_h2 => k0_hw2.2.2.2.2.2.1 k0_t2 k0_t3 k0_h2
theorem k0_off11_inb : ∀ (v0 : BitVec 32) (k0_hw2 : k0_chk2 v0) (k0_t2 : Fin (k0_t2_loop v0).trips), ∀ a, (k0_off11 v0 k0_t2) a + S1.size a ≤ S2.size a := fun v0 k0_hw2 k0_t2 => k0_hw2.2.2.2.2.2.2.1 k0_t2
theorem k0_off12_inb : ∀ (v0 : BitVec 32) (k0_hw2 : k0_chk2 v0) (k0_t2 : Fin (k0_t2_loop v0).trips), ∀ a, (k0_off12 v0 k0_t2) a + S1x1x16384.size a ≤ S2x64x16384.size a := fun v0 k0_hw2 k0_t2 => k0_hw2.2.2.2.2.2.2.2.1 k0_t2
theorem k0_off13_inb : ∀ (v0 : BitVec 32) (k0_hw2 : k0_chk2 v0) (k0_t2 : Fin (k0_t2_loop v0).trips), ∀ a, (k0_off13 v0 k0_t2) a + S1x64x16384.size a ≤ S2x64x16384.size a := fun v0 k0_hw2 k0_t2 => k0_hw2.2.2.2.2.2.2.2.2.1 k0_t2
theorem k0_off14_inb : ∀ (v0 : BitVec 32) (k0_hw2 : k0_chk2 v0) (k0_t2 : Fin (k0_t2_loop v0).trips), ∀ a, (k0_off14 v0 k0_t2) a + S64x3.size a ≤ S512x3.size a := fun v0 k0_hw2 k0_t2 => k0_hw2.2.2.2.2.2.2.2.2.2.1 k0_t2
theorem k0_t5_ok : ∀ (v0 : BitVec 32) (k0_hw2 : k0_chk2 v0), (k0_t5_loop v0).OK := fun v0 k0_hw2 => k0_hw2.2.2.2.2.2.2.2.2.2.2.1
theorem k0_off15_inb : ∀ (v0 : BitVec 32) (k0_hw2 : k0_chk2 v0) (k0_t5 : Fin (k0_t5_loop v0).trips) (k0_t6 : Fin k0_t6_loop.trips), ∀ (k0_h3 : k0_cond3 v0 k0_t5 = 1#1), ∀ a, (k0_off15 v0 k0_t5 k0_t6) a + S1.size a ≤ S512.size a := fun v0 k0_hw2 k0_t5 k0_t6 k0_h3 => k0_hw2.2.2.2.2.2.2.2.2.2.2.2.1 k0_t5 k0_t6 k0_h3
theorem k0_off16_inb : ∀ (v0 : BitVec 32) (k0_hw2 : k0_chk2 v0) (k0_t5 : Fin (k0_t5_loop v0).trips), ∀ (k0_h3 : k0_cond3 v0 k0_t5 = 1#1), ∀ a, (k0_off16 v0 k0_t5) a + S1.size a ≤ S2.size a := fun v0 k0_hw2 k0_t5 k0_h3 => k0_hw2.2.2.2.2.2.2.2.2.2.2.2.2.1 k0_t5 k0_h3
theorem k0_off17_inb : ∀ (v0 : BitVec 32) (k0_hw2 : k0_chk2 v0) (k0_t5 : Fin (k0_t5_loop v0).trips) (k0_t6 : Fin k0_t6_loop.trips), ∀ (k0_h3 : k0_cond3 v0 k0_t5 = 1#1), ∀ a, (k0_off17 v0 k0_t5 k0_t6) a + S1x1x16384.size a ≤ S2x64x16384.size a := fun v0 k0_hw2 k0_t5 k0_t6 k0_h3 => k0_hw2.2.2.2.2.2.2.2.2.2.2.2.2.2.1 k0_t5 k0_t6 k0_h3
theorem k0_off19_inb : ∀ (v0 : BitVec 32) (k0_hw2 : k0_chk2 v0) (k0_t5 : Fin (k0_t5_loop v0).trips), ∀ (k0_h3 : k0_cond3 v0 k0_t5 = 1#1), ∀ a, (k0_off19 v0 k0_t5) a + S1.size a ≤ S2.size a := fun v0 k0_hw2 k0_t5 k0_h3 => k0_hw2.2.2.2.2.2.2.2.2.2.2.2.2.2.2.1 k0_t5 k0_h3
theorem k0_off20_inb : ∀ (v0 : BitVec 32) (k0_hw2 : k0_chk2 v0) (k0_t5 : Fin (k0_t5_loop v0).trips) (k0_t6 : Fin k0_t6_loop.trips), ∀ (k0_h3 : k0_cond3 v0 k0_t5 = 1#1), ∀ a, (k0_off20 v0 k0_t5 k0_t6) a + S1x1x16384.size a ≤ S2x64x16384.size a := fun v0 k0_hw2 k0_t5 k0_t6 k0_h3 => k0_hw2.2.2.2.2.2.2.2.2.2.2.2.2.2.2.2.1 k0_t5 k0_t6 k0_h3
theorem k0_off21_inb : ∀ (v0 : BitVec 32) (k0_hw2 : k0_chk2 v0) (k0_t5 : Fin (k0_t5_loop v0).trips), ∀ a, (k0_off21 v0 k0_t5) a + S1.size a ≤ S2.size a := fun v0 k0_hw2 k0_t5 => k0_hw2.2.2.2.2.2.2.2.2.2.2.2.2.2.2.2.2.1 k0_t5
theorem k0_off22_inb : ∀ (v0 : BitVec 32) (k0_hw2 : k0_chk2 v0) (k0_t5 : Fin (k0_t5_loop v0).trips), ∀ a, (k0_off22 v0 k0_t5) a + S1x1x16384.size a ≤ S2x64x16384.size a := fun v0 k0_hw2 k0_t5 => k0_hw2.2.2.2.2.2.2.2.2.2.2.2.2.2.2.2.2.2.1 k0_t5
theorem k0_off23_inb : ∀ (v0 : BitVec 32) (k0_hw2 : k0_chk2 v0) (k0_t5 : Fin (k0_t5_loop v0).trips), ∀ a, (k0_off23 v0 k0_t5) a + S1x64x16384.size a ≤ S2x64x16384.size a := fun v0 k0_hw2 k0_t5 => k0_hw2.2.2.2.2.2.2.2.2.2.2.2.2.2.2.2.2.2.2.1 k0_t5
theorem k0_off24_inb : ∀ (v0 : BitVec 32) (k0_hw2 : k0_chk2 v0) (k0_t5 : Fin (k0_t5_loop v0).trips), ∀ a, (k0_off24 v0 k0_t5) a + S64x3.size a ≤ S512x3.size a := fun v0 k0_hw2 k0_t5 => k0_hw2.2.2.2.2.2.2.2.2.2.2.2.2.2.2.2.2.2.2.2 k0_t5

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S4096x16384 : Shape := ⟨2, ![4096, 16384]⟩
abbrev S16384x2 : Shape := ⟨2, ![16384, 2]⟩
abbrev S4096x3 : Shape := ⟨2, ![4096, 3]⟩
abbrev S4096x1 : Shape := ⟨2, ![4096, 1]⟩
abbrev S512 : Shape := ⟨1, ![512]⟩
abbrev S1 : Shape := ⟨1, ![1]⟩
abbrev S_ : Shape := ⟨0, ![]⟩
abbrev S4096 : Shape := ⟨1, ![4096]⟩
abbrev S16384 : Shape := ⟨1, ![16384]⟩
abbrev S1x16384 : Shape := ⟨2, ![1, 16384]⟩
abbrev S4096x2 : Shape := ⟨2, ![4096, 2]⟩

abbrev nBuf : Space → Nat
  | .hbm => 30
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x2, .f32⟩
  | .hbm, ⟨3, _⟩ => ⟨S4096x3, .f32⟩
  | .hbm, ⟨4, _⟩ => ⟨S4096x1, .i32⟩
  | .hbm, ⟨5, _⟩ => ⟨S512, .i32⟩
  | .hbm, ⟨6, _⟩ => ⟨S1, .i32⟩
  | .hbm, ⟨7, _⟩ => ⟨S4096x1, .i32⟩
  | .hbm, ⟨8, _⟩ => ⟨S4096x16384, .f32⟩
  | .hbm, ⟨9, _⟩ => ⟨S4096x16384, .i32⟩
  | .hbm, ⟨10, _⟩ => ⟨S_, .f32⟩
  | .hbm, ⟨11, _⟩ => ⟨S_, .i32⟩
  | .hbm, ⟨12, _⟩ => ⟨S4096, .f32⟩
  | .hbm, ⟨13, _⟩ => ⟨S4096, .i32⟩
  | .hbm, ⟨14, _⟩ => ⟨S4096x1, .i32⟩
  | .hbm, ⟨15, _⟩ => ⟨S16384, .i32⟩
  | .hbm, ⟨16, _⟩ => ⟨S1x16384, .i32⟩
  | .hbm, ⟨17, _⟩ => ⟨S4096x16384, .i32⟩
  | .hbm, ⟨18, _⟩ => ⟨S4096x16384, .i32⟩
  | .hbm, ⟨19, _⟩ => ⟨S4096x16384, .i1⟩
  | .hbm, ⟨20, _⟩ => ⟨S4096x16384, .f32⟩
  | .hbm, ⟨21, _⟩ => ⟨S4096x2, .f32⟩
  | .hbm, ⟨22, _⟩ => ⟨S4096x1, .i32⟩
  | .hbm, ⟨23, _⟩ => ⟨S4096x1, .f32⟩
  | .hbm, ⟨24, _⟩ => ⟨S4096x3, .f32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S4096x3, .i1⟩
  | .hbm, ⟨29, _⟩ => ⟨S4096x3, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Proof.Row.lean ====
/-
  One row of the sampling problem, as mathematics: the scores made from the quantised noise, the candidates within
  the tolerance of the best score, and the row's arg-max under the true noise. Nothing here mentions a program.
-/
module

public import Idealize.ShloMosaic.Lib.Pointwise
public import Idealize.ShloMosaic.Lib.IdealHost

@[expose] public section

noncomputable section

namespace Cert.Row

open Idealize.ShloMosaic

/-- The noise value that a byte of the quantised table stands for. -/
def noisy (b : BitVec 8) : EReal :=
  FloatOps.uitofp (F := Ideal) .f32 b * Ideal.ofBits .f32 0x3DA34C21#32 + Ideal.ofBits .f32 0xC08C7B28#32

/-- The tolerance: the quantisation step with its safety margin. -/
def tol : EReal := Ideal.ofBits .f32 0x3DA3570C#32

/-- A row's scores under the quantised noise. -/
def score {n : ℕ} (l : Fin n → EReal) (q : Fin n → BitVec 8) (k : Fin n) : EReal := l k + noisy (q k)

/-- The threshold of a row: its greatest score less the tolerance. -/
def floor {n : ℕ} (u : Fin n → EReal) : EReal :=
  Finset.univ.fold max (Ideal.ofBits .f32 0xFF800000#32) u - tol

/-- Whether place `k` of a row reaches the threshold, as a bit. -/
def near {n : ℕ} (u : Fin n → EReal) (k : Fin n) : BitVec 1 := BitVec.ofBool (decide (floor u ≤ u k))

/-- How many places of a row reach the threshold. -/
def count {n : ℕ} (u : Fin n → EReal) : ℕ := (Finset.univ.filter fun k => near u k = 1#1).card

/-- The tolerance is a real number, and not negative. -/
theorem tol_real : ∃ t : ℝ, 0 ≤ t ∧ tol = (t : EReal) := by
  refine ⟨(10704652 : ℝ) * 2 ^ (-27 : ℤ), by positivity, ?_⟩
  simp [tol, Ideal.ofBits, Ideal.ieee, -EReal.coe_mul]

/-- The word of minus infinity denotes the least extended real. -/
theorem ninf : Ideal.ofBits .f32 0xFF800000#32 = (⊥ : EReal) := by
  simp [Ideal.ofBits, Ideal.ieee]

/-- A byte's noise value is a real number. -/
theorem noisy_real (b : BitVec 8) : ∃ d : ℝ, noisy b = (d : EReal) := by
  have h1 : ∃ s : ℝ, Ideal.ofBits .f32 0x3DA34C21#32 = (s : EReal) :=
    ⟨_, by simp [Ideal.ofBits, Ideal.ieee, -EReal.coe_mul]; rfl⟩
  have h2 : ∃ s : ℝ, Ideal.ofBits .f32 0xC08C7B28#32 = (s : EReal) :=
    ⟨_, by simp [Ideal.ofBits, Ideal.ieee, -EReal.coe_mul, -EReal.coe_neg]; rfl⟩
  obtain ⟨s, hs⟩ := h1
  obtain ⟨s', hs'⟩ := h2
  refine ⟨(b.toNat : ℝ) * s + s', ?_⟩
  show ((b.toNat : ℝ) : EReal) * _ + _ = _
  rw [hs, hs']; norm_cast

/-- The fold of `max` from minus infinity over a non-empty row is reached at some place and bounds every place. -/
theorem fold_max {n : ℕ} [NeZero n] (u : Fin n → EReal) :
    ∃ j, Finset.univ.fold max (Ideal.ofBits .f32 0xFF800000#32) u = u j ∧ ∀ k, u k ≤ u j := by
  obtain ⟨j, -, hj⟩ := Finset.exists_max_image Finset.univ u ⟨0, Finset.mem_univ _⟩
  refine ⟨j, le_antisymm ?_ ?_, fun k => hj k (Finset.mem_univ _)⟩
  · exact Finset.fold_max_le _ |>.2 ⟨ninf ▸ bot_le, fun k hk => hj k hk⟩
  · exact Finset.le_fold_max _ |>.2 (Or.inr ⟨j, Finset.mem_univ _, le_rfl⟩)

/-- A row with one candidate has a place that the candidate bit singles out. -/
theorem exists_only {n : ℕ} {u : Fin n → EReal} (h : count u = 1) : ∃ j, ∀ k, near u k = 1#1 ↔ k = j := by
  obtain ⟨j, hj⟩ := Finset.card_eq_one.1 h
  refine ⟨j, fun k => ?_⟩
  have := Finset.ext_iff.1 hj k
  simpa using this

/-- The candidate bit, as the order relation. -/
theorem near_iff {n : ℕ} (u : Fin n → EReal) (k : Fin n) : near u k = 1#1 ↔ floor u ≤ u k := by
  unfold near
  by_cases h : floor u ≤ u k <;> simp [h]

/-- **The single candidate wins.** Where the true noise lies below the quantised noise by at most the tolerance, a row
    with the single candidate `j` has its strict maximum under the true noise at `j`. -/
theorem wins {n : ℕ} [NeZero n] (l g : Fin n → EReal) (q : Fin n → BitVec 8) (hg : ∀ k, g k ≤ noisy (q k))
    (hd : ∀ k, noisy (q k) ≤ g k + tol) {j : Fin n} (hj : ∀ k, near (score l q) k = 1#1 ↔ k = j) :
    ∀ k, k ≠ j → l k + g k < l j + g j := by
  obtain ⟨t, ht, et⟩ := tol_real
  obtain ⟨i, hi, him⟩ := fold_max (score l q)
  have hfl : floor (score l q) = score l q i - (t : EReal) := by rw [floor, hi, et]
  have hsub : ∀ x : EReal, x - (t : EReal) ≤ x := fun x => by
    induction x with
    | bot => simp
    | top => simp
    | coe r => norm_cast; linarith
  have hij : i = j := (hj i).1 ((near_iff _ _).2 (hfl ▸ hsub _))
  subst hij
  intro k hk
  have hlt : score l q k < score l q i - (t : EReal) := by
    rw [← hfl]; exact lt_of_not_ge fun h => hk ((hj k).1 ((near_iff _ _).2 h))
  refine lt_of_le_of_lt (add_le_add_right (hg k) (l k)) (lt_of_lt_of_le hlt ?_)
  obtain ⟨d, ed⟩ := noisy_real (q i)
  have h1 := hg i
  have h2 := hd i
  rw [ed] at h1 h2
  rw [et] at h2
  unfold score
  rw [ed]
  generalize hG : g i = G at *
  generalize l i = L
  induction G with
  | bot => simp at h2
  | top => simp at h1
  | coe r =>
    have h2' : d ≤ r + t := by exact_mod_cast h2
    induction L with
    | bot => simp
    | top => simp
    | coe s => norm_cast; linarith

/-- A sum weighted by bits of which only the one at `j` is set is the term at `j`. -/
theorem sum_single {n : ℕ} (p : Fin n → BitVec 1) (f : Fin n → EReal) {j : Fin n} (hj : ∀ k, p k = 1#1 ↔ k = j) :
    ∑ k, FloatOps.sitofp (F := Ideal) .f32 ((p k).setWidth 32) * f k = f j := by
  rw [Finset.sum_eq_single j]
  · rw [(hj j).2 rfl]
    show (((((1#1 : BitVec 1).setWidth 32).toInt : ℤ) : ℝ) : EReal) * f j = f j
    simp
  · intro k _ hk
    rw [(BitVec.eq_zero_or_eq_one (p k)).resolve_right fun h => hk ((hj k).1 h)]
    show (((((0#1 : BitVec 1).setWidth 32).toInt : ℤ) : ℝ) : EReal) * f k = 0
    simp
  · simp

/-- A sum of bits is the number of those that are set. -/
theorem sum_ones {n : ℕ} (p : Fin n → BitVec 1) :
    ∑ k, FloatOps.sitofp (F := Ideal) .f32 ((p k).setWidth 32) * 1
      = (((Finset.univ.filter fun k => p k = 1#1).card : ℝ) : EReal) := by
  have e : ((Finset.univ.filter fun k => p k = 1#1).card : ℝ) = ∑ k, if p k = 1#1 then (1 : ℝ) else 0 := by
    rw [Finset.card_filter]; push_cast; rfl
  have c : ((∑ k, if p k = 1#1 then (1 : ℝ) else 0 : ℝ) : EReal) = ∑ k, ((if p k = 1#1 then (1 : ℝ) else 0 : ℝ) : EReal) := by
    classical
    induction (Finset.univ : Finset (Fin n)) using Finset.induction_on with
    | empty => simp
    | insert a s ha ih => rw [Finset.sum_insert ha, Finset.sum_insert ha, EReal.coe_add, ih]
  rw [e, c]
  refine Finset.sum_congr rfl fun k _ => ?_
  rcases BitVec.eq_zero_or_eq_one (p k) with h | h <;> rw [h]
  · show (((((0#1 : BitVec 1).setWidth 32).toInt : ℤ) : ℝ) : EReal) * 1 = _
    simp
  · show (((((1#1 : BitVec 1).setWidth 32).toInt : ℤ) : ℝ) : EReal) * 1 = _
    simp

/-- A small natural number read back from the floats is its word. -/
theorem fptosi_nat {m : ℕ} (h : m < 2 ^ 31) : Ideal.fptosi 32 (((m : ℝ)) : EReal) = BitVec.ofNat 32 m := by
  unfold Ideal.fptosi
  rw [Ideal.toIntClamped_coe, if_pos (Nat.cast_nonneg m), Int.floor_natCast, min_eq_right, max_eq_right]
  · simp
  · norm_num
  · norm_num; omega

/-- The body of the reference's arg-max reduction, on extended reals and index words. -/
def argStep (a b : EReal × BitVec 32) : EReal × BitVec 32 :=
  let gt := IntOp.ori (FloatOps.cmpf (F := Ideal) (φ := .f32) .ogt a.1 b.1) (FloatOps.cmpf (F := Ideal) (φ := .f32) .une a.1 a.1)
  (Scalar.select gt a.1 b.1,
    Scalar.select (IntOp.ori gt (IntOp.andi (FloatOps.cmpf (F := Ideal) (φ := .f32) .oeq a.1 b.1) (IntOp.cmpi .slt a.2 b.2))) a.2 b.2)

/-- The step keeps the greater value; on the right when the left one is strictly smaller. -/
theorem argStep_lt {a b : EReal × BitVec 32} (h : a.1 < b.1) : argStep a b = b := by
  have h1 : ¬ b.1 < a.1 := not_lt.2 h.le
  have h2 : a.1 ≠ b.1 := h.ne
  simp [argStep, Ideal.cmpf_def, Ideal.cmp, Scalar.select, IntOp.ori, IntOp.andi, h1, h2]

/-- The step keeps the left pair when its value is strictly greater. -/
theorem argStep_gt {a b : EReal × BitVec 32} (h : b.1 < a.1) : argStep a b = a := by
  have e : IntOp.ori (FloatOps.cmpf (F := Ideal) (φ := .f32) .ogt a.1 b.1) (FloatOps.cmpf (F := Ideal) (φ := .f32) .une a.1 a.1) = 1#1 := by
    simp [Ideal.cmpf_def, Ideal.cmp, IntOp.ori, h]
  have o : ∀ x : BitVec 1, IntOp.ori 1#1 x = 1#1 := by decide
  unfold argStep
  rw [e]
  dsimp only
  rw [o]
  rfl

/-- The step of a pair with itself is that pair. -/
theorem argStep_self (a : EReal × BitVec 32) : argStep a a = a := by
  simp [argStep, Scalar.select]

/-- The step's value is one of the two values. -/
theorem argStep_fst (a b : EReal × BitVec 32) : (argStep a b).1 = a.1 ∨ (argStep a b).1 = b.1 := by
  unfold argStep Scalar.select
  dsimp only
  split
  · exact Or.inl rfl
  · exact Or.inr rfl

/-- From the strict maximum, the fold over pairs that are smaller or that same pair stays there. -/
theorem fold_stay (w : EReal × BitVec 32) :
    ∀ L : List (EReal × BitVec 32), (∀ p ∈ L, p = w ∨ p.1 < w.1) → L.foldl argStep w = w
  | [], _ => rfl
  | p :: L, h => by
    have hp : argStep w p = w := by
      rcases h p List.mem_cons_self with e | e
      · rw [e]; exact argStep_self w
      · exact argStep_gt e
    rw [List.foldl_cons, hp]
    exact fold_stay w L fun q hq => h q (List.mem_cons_of_mem _ hq)

/-- The fold over a list whose strict maximum is `w`, from a smaller value, ends at `w`. -/
theorem fold_reach (w : EReal × BitVec 32) :
    ∀ (L : List (EReal × BitVec 32)) (a : EReal × BitVec 32), a.1 < w.1 → w ∈ L → (∀ p ∈ L, p = w ∨ p.1 < w.1) →
      L.foldl argStep a = w
  | [], _, _, hw, _ => absurd hw List.not_mem_nil
  | p :: L, a, ha, hw, h => by
    rw [List.foldl_cons]
    have hL : ∀ q ∈ L, q = w ∨ q.1 < w.1 := fun q hq => h q (List.mem_cons_of_mem _ hq)
    rcases h p List.mem_cons_self with e | e
    · subst e
      rw [argStep_lt ha]
      exact fold_stay _ L hL
    · refine fold_reach w L _ ?_ ?_ hL
      · rcases argStep_fst a p with e' | e' <;> rw [e'] <;> assumption
      · rcases List.mem_cons.1 hw with rfl | hw
        · exact absurd e (lt_irrefl _)
        · exact hw

/-- Division of a small word by 128. -/
theorem divsi_small {n : ℕ} (hn : n < 2 ^ 31) : IntOp.divsi .vector (BitVec.ofNat 32 n) 128#32 = BitVec.ofNat 32 (n / 128) := by
  have hm : (BitVec.ofNat 32 n).msb = false := by
    rw [BitVec.msb_eq_false_iff_two_mul_lt, BitVec.toNat_ofNat, Nat.mod_eq_of_lt (by omega)]; omega
  rw [IntOp.divsi, if_neg (by simp [IntOp.SDivCorner]), BitVec.sdiv_eq, hm]
  apply BitVec.eq_of_toNat_eq
  show ((BitVec.ofNat 32 n) / 128#32).toNat = _
  rw [BitVec.toNat_udiv, BitVec.toNat_ofNat, BitVec.toNat_ofNat, BitVec.toNat_ofNat, Nat.mod_eq_of_lt (by omega), Nat.mod_eq_of_lt (by omega),  Nat.mod_eq_of_lt (by omega)]

/-- A small word read as a signed number. -/
theorem toInt_small {n : ℕ} (hn : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

/-- A small word is positive exactly when its number is. -/
theorem sgt_small {n : ℕ} (hn : n < 2 ^ 31) : IntOp.cmpi .sgt (BitVec.ofNat 32 n) 0#32 = BitVec.ofBool (decide (0 < n)) := by
  have h := toInt_small hn
  simp [IntOp.cmpi, BitVec.slt_eq_decide, h]

/-- A small word is not negative. -/
theorem slt_small {n : ℕ} (hn : n < 2 ^ 31) : IntOp.cmpi .slt (BitVec.ofNat 32 n) 0#32 = 0#1 := by
  have h := toInt_small hn
  have h' : ¬ ((n : ℤ) < 0) := by omega
  simp [IntOp.cmpi, BitVec.slt_eq_decide, h, h']

/-- Floor division of a word by 128, as the kernel spells it: the truncated quotient, less one where the signs
    differ and there is a remainder. -/
def hiWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

/-- Floor division of a small word by 128. -/
theorem hiWord_small {n : ℕ} (hn : n < 2 ^ 31) : hiWord (BitVec.ofNat 32 n) = BitVec.ofNat 32 (n / 128) := by
  rcases Nat.eq_zero_or_pos n with rfl | h0
  · decide
  · unfold hiWord
    rw [divsi_small hn, sgt_small hn, slt_small hn, decide_eq_true h0]
    have e : IntOp.cmpi .ne (IntOp.subi (BitVec.setWidth 32 (BitVec.ofBool true)) (BitVec.setWidth 32 0#1))
        (Scalar.subi (Scalar.extui (Scalar.cmpi .sgt 128#32 0#32)) (Scalar.extui (Scalar.cmpi .slt 128#32 0#32))) = 0#1 := by decide
    rw [e]
    simp [IntOp.andi, Scalar.select]

/-- Clamping a place of the table to the table changes nothing. -/
theorem clip_small {n : ℕ} (hn : n < 16384) : IntOp.minsi 16383#32 (IntOp.maxsi 0#32 (BitVec.ofNat 32 n)) = BitVec.ofNat 32 n := by
  have h := toInt_small (n := n) (by omega)
  have h1 : (BitVec.ofNat 32 n).slt 0#32 = false := by
    rw [BitVec.slt_eq_decide, h]; simp
  have h2 : (16383#32 : BitVec 32).slt (BitVec.ofNat 32 n) = false := by
    rw [BitVec.slt_eq_decide, h]; simp; omega
  unfold IntOp.minsi IntOp.maxsi
  simp [h1, h2]

/-- The remainder of a word by 128, as the word less 128 times its quotient. -/
theorem lo_small (n : ℕ) : IntOp.subi (BitVec.ofNat 32 n) (IntOp.muli (BitVec.ofNat 32 (n / 128)) 128#32) = BitVec.ofNat 32 (n % 128) := by
  have e : n / 128 * 128 + n % 128 = n := Nat.div_add_mod' n 128
  have e' : BitVec.ofNat 32 n = BitVec.ofNat 32 (n / 128 * 128) + BitVec.ofNat 32 (n % 128) := by
    rw [← BitVec.ofNat_add, e]
  show BitVec.ofNat 32 n - BitVec.ofNat 32 (n / 128) * BitVec.ofNat 32 128 = _
  rw [← BitVec.ofNat_mul, e', BitVec.add_comm, BitVec.add_sub_cancel]

/-- Words of numbers below `2 ^ 32` are equal where the numbers are. -/
theorem cmpi_ofNat {n : ℕ} (hn : n ≤ 2 ^ 32) (k j : Fin n) :
    IntOp.cmpi .eq (BitVec.ofNat 32 k.val) (BitVec.ofNat 32 j.val) = 1#1 ↔ k = j := by
  have hk := k.isLt
  have hj := j.isLt
  have e : (BitVec.ofNat 32 k.val = BitVec.ofNat 32 j.val) ↔ k = j := by
    constructor
    · intro h
      have := congrArg BitVec.toNat h
      simp only [BitVec.toNat_ofNat] at this
      exact Fin.ext (by rwa [Nat.mod_eq_of_lt (by omega), Nat.mod_eq_of_lt (by omega)] at this)
    · rintro rfl; rfl
  rw [← e]
  show BitVec.ofBool (_ == _) = 1#1 ↔ _
  by_cases h : BitVec.ofNat 32 k.val = BitVec.ofNat 32 j.val
  · simp [h]
  · rw [show (BitVec.ofNat 32 k.val == BitVec.ofNat 32 j.val) = false from beq_eq_false_iff_ne.2 h]
    exact iff_of_false (by decide) h

end Cert.Row

end
-- ==== Proof.Block.lean ====
/-
  What the call's body computes from one block of rows, on extended reals: per row the number of candidates, and, where
  a row has a single candidate, that candidate's place and its two entries of the folded table.
-/
module

public import proofs.«01_k».proof.Proof.Gen.KernelIdeal.Value
public import proofs.«01_k».proof.Proof.Row

@[expose] public section

noncomputable section

namespace Cert.Block

open Cert.KernelIdeal Cert.KernelIdeal.Gen Idealize.ShloMosaic Cert.Row

variable (P0 : Vec Ideal S128x16384 .i8) (P1 : Vec Ideal S128x16384 .f32) (P2 : Vec Ideal S16384x2 .f32)
  (P3 : Vec Ideal S128x256 .f32)

/-- The scores of row `r` of a block. -/
abbrev scores (r : Fin 128) : Fin 16384 → EReal := score (fun k => P1 (ix2 r k)) (fun k => P0 (ix2 r k))

set_option maxRecDepth 16384 in
/-- The product of the candidate bits with the two columns, at a row and a column. -/
theorem pay1_apply (r : Fin 128) (c : Fin 2) :
    k0_pay1 P0 P1 P2 (ix2 r c)
      = ∑ k, FloatOps.sitofp (F := Ideal) .f32 ((near (scores P0 P1 r) k).setWidth 32) * P2 (ix2 k c) := by
  pointwise [k0_pay1]
  rfl

/-- The flag of a row: set unless the row has a single candidate. -/
theorem flag_apply (hP2 : ∀ k, P2 (ix2 k 0) = (1 : EReal)) (r : Fin 128) :
    Value.E5 P0 P1 P2 (ix2 r 0) = if count (scores P0 P1 r) = 1 then 0#32 else 1#32 := by
  have e : Value.ix5_0 (ix2 r 0) = ix2 r 0 := by
    funext a; match a with | ⟨0, _⟩ => rfl | ⟨1, _⟩ => rfl
  show (FloatOps.cmpf .one (k0_pay1 P0 P1 P2 (Value.ix5_0 (ix2 r 0))) (Ideal.ofBits .f32 0x3F800000#32)).setWidth 32 = _
  rw [e, pay1_apply]
  simp only [hP2]
  rw [sum_ones, Ideal.ofBits_one_f32]
  have : (((count (scores P0 P1 r) : ℝ)) : EReal) = 1 ↔ count (scores P0 P1 r) = 1 := by
    norm_cast
  show (BitVec.ofBool (decide ((((count (scores P0 P1 r) : ℝ)) : EReal) ≠ 1))).setWidth 32 = _
  by_cases h : count (scores P0 P1 r) = 1
  · rw [if_pos h, this.2 h]; simp
  · rw [if_neg h, decide_eq_true (p := _ ≠ _) (mt this.1 h)]; rfl

/-- The two-stage lookup, the row by a product with an indicator and the column by a select: the entry of the folded
    table at `j`'s quotient and remainder. -/
theorem pick (j : Fin 16384) (f : Fin 128 → Fin 128 → EReal) :
    ∑ x : Fin 128, Scalar.select (IntOp.cmpi .eq (BitVec.ofNat 32 x.val) (BitVec.ofNat 32 (j.val % 128)))
        (∑ y : Fin 128, FloatOps.sitofp (F := Ideal) .f32
          (BitVec.setWidth 32 (IntOp.cmpi .eq (BitVec.ofNat 32 y.val) (BitVec.ofNat 32 (j.val / 128)))) * f y x) 0
      = f ⟨j.val / 128, by omega⟩ ⟨j.val % 128, by omega⟩ := by
  rw [Finset.sum_eq_single (⟨j.val % 128, by omega⟩ : Fin 128)]
  · have hs : ∑ y : Fin 128, FloatOps.sitofp (F := Ideal) .f32
        (BitVec.setWidth 32 (IntOp.cmpi .eq (BitVec.ofNat 32 y.val) (BitVec.ofNat 32 (j.val / 128))))
          * f y ⟨j.val % 128, by omega⟩ = f ⟨j.val / 128, by omega⟩ ⟨j.val % 128, by omega⟩ :=
      sum_single (fun y : Fin 128 => IntOp.cmpi .eq (BitVec.ofNat 32 y.val) (BitVec.ofNat 32 (j.val / 128)))
        (fun y => f y ⟨j.val % 128, by omega⟩) (j := ⟨j.val / 128, by omega⟩)
        fun k => cmpi_ofNat (by omega) k ⟨j.val / 128, by omega⟩
    rw [hs]
    exact if_pos ((cmpi_ofNat (n := 128) (by omega) ⟨j.val % 128, by omega⟩ ⟨j.val % 128, by omega⟩).2 rfl)
  · intro x _ hx
    exact if_neg fun h => hx ((cmpi_ofNat (by omega) x ⟨j.val % 128, by omega⟩).1 h)
  · intro h; exact absurd (Finset.mem_univ _) h

variable {P0 P1} {r : Fin 128} {j : Fin 16384}

set_option maxRecDepth 16384 in
/-- The place read off the product, in a row with the single candidate `j`: the word of `j`. -/
theorem pay3_apply (hj : ∀ k, near (scores P0 P1 r) k = 1#1 ↔ k = j) (hP2 : ∀ k, P2 (ix2 k 1) = ((k.val : ℝ) : EReal)) :
    k0_pay3 P0 P1 P2 (ix1 r) = BitVec.ofNat 32 j.val := by
  pointwise [k0_pay3]
  have e : FloatOps.fptosi (F := Ideal) (φ := .f32) 32 (k0_pay1 P0 P1 P2 (ix2 r 1)) = BitVec.ofNat 32 j.val := by
    rw [pay1_apply, sum_single _ _ hj, hP2]
    exact fptosi_nat (by omega)
  rw [e]
  exact clip_small j.isLt

set_option maxRecDepth 16384 in
/-- The row written for a row with the single candidate `j`: `j` itself and its two entries of the folded table. -/
theorem pay6_apply (hj : ∀ k, near (scores P0 P1 r) k = 1#1 ↔ k = j) (hP2 : ∀ k, P2 (ix2 k 1) = ((k.val : ℝ) : EReal))
    (c : Fin 3) :
    k0_pay6 (F := Ideal) (k0_pay3 P0 P1 P2) 128#32 (k0_pay4 P0 P1 P2) (k0_pay5 P0 P1 P2)
        (Scalar.extui (Scalar.cmpi .sgt 128#32 0#32)) P3 (ix2 r c)
      = if c.val = 0 then ((j.val : ℝ) : EReal)
        else if c.val = 1 then P3 (ix2 ⟨j.val / 128, by omega⟩ ⟨j.val % 128, by omega⟩)
        else P3 (ix2 ⟨j.val / 128, by omega⟩ ⟨128 + j.val % 128, by omega⟩) := by
  have h3 := pay3_apply P2 hj hP2
  have h4 : k0_pay4 P0 P1 P2 (ix1 r) = IntOp.divsi .vector (k0_pay3 P0 P1 P2 (ix1 r)) 128#32 := rfl
  have h5 : k0_pay5 P0 P1 P2 (ix1 r) = IntOp.subi (BitVec.setWidth 32 (IntOp.cmpi .sgt (k0_pay3 P0 P1 P2 (ix1 r)) 0#32))
    (BitVec.setWidth 32 (IntOp.cmpi .slt (k0_pay3 P0 P1 P2 (ix1 r)) 0#32)) := rfl
  have hhi := hiWord_small (n := j.val) (by omega)
  have hlo := lo_small j.val
  unfold hiWord at hhi
  pointwise [k0_pay6]
  rw [h4, h5, h3, hhi, hlo]
  fin_vals c with hc
  all_goals simp only [hc]
  · show (((BitVec.ofNat 32 j.val).toInt : ℝ) : EReal) = _
    rw [toInt_small (by omega)]; simp
  · simpa using pick j fun y x => P3 (ix2 y ⟨x.val, by omega⟩)
  · simpa using pick j fun y x => P3 (ix2 y ⟨128 + x.val, by omega⟩)

end Cert.Block

end
-- ==== Proof.Arrays.lean ====
/-
  The call's two result arrays after its run on extended reals, row by row.
-/
module

public import proofs.«01_k».proof.Proof.Block
public import Idealize.ShloMosaic.Lib.Pipeline.ValueKit
public import Idealize.ShloMosaic.Lib.Claim
public import Idealize.ShloMosaic.Lib.Tactic.CleanTypes

@[expose] public section

set_option maxRecDepth 16384

noncomputable section

namespace Cert.Arrays

open Cert.KernelIdeal Cert.KernelIdeal.Gen Idealize.ShloMosaic Idealize.ShloMosaic.TcCoe Idealize.SL.Sem Cert.Row
open Idealize.ShloMosaic.Pipeline (Dat)

variable (m : (ℓ : Loc nD τ sig) → Buf (Elt Ideal) ℓ) (c : Dev nD)

/-- The blocks' places at a point. -/
theorem places : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0])

/-- Every point writes both its blocks back. -/
theorem flushes : ∀ t : Fin cfg0.N, (cfg0.win 4).flush t = true ∧ (cfg0.win 5).flush t = true :=
  (by decide +kernel : ∀ t : Fin grid0.N, (cfg0.win 4).flush t = true ∧ (cfg0.win 5).flush t = true)

/-- The first operand's block at a point: its rows of the logits. -/
theorem logits_blk (t : Fin cfg0.N) (r : Fin 128) (k : Fin 16384) (h : t.val * 128 + r.val < 4096) :
    iblk m c 0 t (ix2 r k) = m ((c : Thread nD τ).loc main_arg0) (ix2 ⟨t.val * 128 + r.val, h⟩ k) := by
  blk_ext [iblk, V, places t]

/-- The second operand's block: its rows of the noise codes. -/
theorem codes_blk (t : Fin cfg0.N) (r : Fin 128) (k : Fin 16384) (h : t.val * 128 + r.val < 4096) :
    iblk m c 1 t (ix2 r k) = m ((c : Thread nD τ).loc main_arg2) (ix2 ⟨t.val * 128 + r.val, h⟩ k) := by
  blk_ext [iblk, V, places t]

/-- The reduction matrix's first column: ones. -/
theorem ones_blk (t : Fin cfg0.N) (k : Fin 16384) : iblk m c 2 t (ix2 k 0) = (1 : EReal) := by
  have e : iblk m c 2 t (ix2 k 0) = V m c main_v4 (ix2 k 0) := by
    blk_ext [iblk, places t]
  rw [e]
  entry_read
  clean_types
  pointwise

/-- The reduction matrix's second column: the places. -/
theorem iota_blk (t : Fin cfg0.N) (k : Fin 16384) : iblk m c 2 t (ix2 k 1) = ((k.val : ℝ) : EReal) := by
  have e : iblk m c 2 t (ix2 k 1) = V m c main_v4 (ix2 k 1) := by
    blk_ext [iblk, places t]
  rw [e]
  entry_read
  clean_types
  pointwise
  show (((BitVec.ofNat 32 k.val).toInt : ℝ) : EReal) = _
  rw [toInt_small (by omega)]; norm_cast

/-- The folded table: the two columns of the table, each in rows of 128, side by side. -/
theorem table_blk (t : Fin cfg0.N) (a : Fin 128) (b : Fin 256) : iblk m c 3 t (ix2 a b)
   = m ((c : Thread nD τ).loc main_arg3) (if h : b.val < 128 then ix2 ⟨a.val * 128 + b.val, by omega⟩ 0 else ix2 ⟨a.val * 128 + (b.val - 128), by omega⟩ 1)  := by
  have e : iblk m c 3 t (ix2 a b) = V m c main_v11 (ix2 a b) := by
    blk_ext [iblk, places t]
  rw [e]
  entry_read
  clean_types
  pointwise
  split <;> rfl

/-- The second result's array at a row: the body's flag of its block. -/
theorem out5 (t : Fin cfg0.N) (r : Fin 128) (h : t.val * 128 + r.val < 4096) :
    (dats m 0 c).arrAt 5 cfg0.N (ix2 ⟨t.val * 128 + r.val, h⟩ 0)
      = Value.E5 (iblk m c 1 t) (iblk m c 0 t) (iblk m c 2 t) (ix2 r 0) := by
  have e := congrFun (Value.blocks5 m c t (flushes t).2) (ix2 r 0)
  rw [Value.flushed5] at e
  refine Eq.trans ?_ (e.trans ?_)
  · show _ = (dats m 0 c).arrAt 5 cfg0.N (((cfg0.win 5).blk t).view.emb (ix2 r 0))
    refine congrArg _ ?_
    blk_ext [places t]
  · show out0_5 (iblk m c 0 t) (iblk m c 1 t) (iblk m c 2 t) (iblk m c 3 t) (ix2 r 0) = _
    frame_out
    refine (Value.piece5_0 _ _ _ _).trans (congrArg (Value.E5 _ _ _) ?_)
    funext a
    match a with
    | ⟨0, _⟩ => exact Fin.ext (by show 0 + 1 * r.val = r.val; omega)
    | ⟨1, _⟩ => rfl

/-- The first result's array at a row: the body's row of its block. -/
theorem out4 (t : Fin cfg0.N) (r : Fin 128) (d : Fin 3) (h : t.val * 128 + r.val < 4096) :
    (dats m 0 c).arrAt 4 cfg0.N (ix2 ⟨t.val * 128 + r.val, h⟩ d)
      = k0_pay6 (F := Ideal) (k0_pay3 (iblk m c 1 t) (iblk m c 0 t) (iblk m c 2 t)) 128#32 (k0_pay4 (iblk m c 1 t) (iblk m c 0 t) (iblk m c 2 t)) (k0_pay5 (iblk m c 1 t) (iblk m c 0 t) (iblk m c 2 t))
        (Scalar.extui (Scalar.cmpi .sgt 128#32 0#32)) (iblk m c 3 t) (ix2 r d) := by
  have e := congrFun (Value.blocks4 m c t (flushes t).1) (ix2 r d)
  rw [Value.flushed4] at e
  refine Eq.trans ?_ (e.trans ?_)
  · show _ = (dats m 0 c).arrAt 4 cfg0.N (((cfg0.win 4).blk t).view.emb (ix2 r d))
    refine congrArg _ ?_
    blk_ext [places t]
  · show out0_4 (iblk m c 0 t) (iblk m c 1 t) (iblk m c 2 t) (iblk m c 3 t) (ix2 r d) = _
    frame_out

/-- The scores of a row of the arrays. -/
abbrev rowScores (R : Fin 4096) : Fin 16384 → EReal :=
  score (fun k => m ((c : Thread nD τ).loc main_arg0) (ix2 R k)) (fun k => m ((c : Thread nD τ).loc main_arg2) (ix2 R k))

/-- A row of the arrays as a point and a row of its block. -/
theorem split (R : Fin 4096) : ∃ (t : Fin cfg0.N) (r : Fin 128) (h : t.val * 128 + r.val < 4096), R = ⟨t.val * 128 + r.val, h⟩ :=
  ⟨⟨R.val / 128, by have := R.isLt; show R.val / 128 < 32; omega⟩, ⟨R.val % 128, by omega⟩,
    by have := R.isLt; show R.val / 128 * 128 + R.val % 128 < 4096; omega, Fin.ext (by show R.val = R.val / 128 * 128 + R.val % 128; omega)⟩

/-- The scores of a block's row are the scores of the arrays' row. -/
theorem scores_eq (t : Fin cfg0.N) (r : Fin 128) (h : t.val * 128 + r.val < 4096) :
    Block.scores (iblk m c 1 t) (iblk m c 0 t) r = rowScores m c ⟨t.val * 128 + r.val, h⟩ := by
  have e0 : (fun k => iblk m c 0 t (ix2 r k)) = _ := funext fun k => logits_blk m c t r k h
  have e1 : (fun k => iblk m c 1 t (ix2 r k)) = _ := funext fun k => codes_blk m c t r k h
  show score (fun k => iblk m c 0 t (ix2 r k)) (fun k => iblk m c 1 t (ix2 r k)) = _
  rw [e0, e1]

/-- The second result after the run: a row's flag is clear exactly where it has a single candidate. -/
theorem flag_at (R : Fin 4096) :
    (dats m 0 c).arrAt 5 cfg0.N (ix2 R 0) = if count (rowScores m c R) = 1 then 0#32 else 1#32 := by
  obtain ⟨t, r, h, rfl⟩ := split R
  rw [out5, Block.flag_apply _ _ _ (ones_blk m c t), scores_eq]

/-- The first result after the run, at a row with the single candidate `j`: `j` and its row of the table. -/
theorem row_at (R : Fin 4096) (j : Fin 16384) (hj : ∀ k, near (rowScores m c R) k = 1#1 ↔ k = j) (d : Fin 3) :
    (dats m 0 c).arrAt 4 cfg0.N (ix2 R d)
      = if d.val = 0 then ((j.val : ℝ) : EReal)
        else if d.val = 1 then m ((c : Thread nD τ).loc main_arg3) (ix2 j 0)
        else m ((c : Thread nD τ).loc main_arg3) (ix2 j 1) := by
  obtain ⟨t, r, h, rfl⟩ := split R
  rw [← scores_eq] at hj
  rw [out4, Block.pay6_apply (iblk m c 2 t) (iblk m c 3 t) hj (iota_blk m c t)]
  have hl : j.val / 128 * 128 + j.val % 128 = j.val := by omega
  split
  · rfl
  · split
    · rw [table_blk, dif_pos (by show j.val % 128 < 128; omega)]
      refine congrArg _ (congrArg (fun x => ix2 x 0) (Fin.ext hl))
    · rw [table_blk, dif_neg (by show ¬ 128 + j.val % 128 < 128; omega)]
      refine congrArg _ (congrArg (fun x => ix2 x 1) (Fin.ext ?_))
      show j.val / 128 * 128 + (128 + j.val % 128 - 128) = j.val
      omega

end Cert.Arrays

end
-- ==== Proof.Ref.lean ====
/-
  What the reference computes: its run, with its two results named by definitions, and their entries.
-/
module

public import proofs.«01_k».proof.Defs
public import proofs.«01_k».proof.Proof.Gen.ReferenceIdeal
public import proofs.«01_k».proof.Proof.Row
public import Idealize.ShloMosaic.Lib.IndicatorCount
public import Idealize.ShloMosaic.Adequacy
public import Idealize.ShloMosaic.Lib.Claim

@[expose] public section

noncomputable section

namespace Cert.Ref

open Idealize.ShloMosaic Idealize.SL.Sem Cert.ReferenceIdeal Cert.ReferenceIdeal.Gen Cert.Row

/-- The place of the maximum by `argStep` over the entries that drop to an index. -/
def argBest (f : EReal × BitVec 32 → EReal × BitVec 32 → EReal × BitVec 32) {s t u : Shape} {axes : List (Fin s.rank)} (x : FVec Ideal s .f32) (y : IVec s 32) (ix : FVec Ideal u .f32)
    (iy : IVec u 32) (h : s.ReducesTo axes t) (hu : 0 < u.numel) : IVec t 32 :=
  fun j => (Host.argReduce (F := Ideal) (φ := .f32) f x y ix iy h hu j).2

/-- The argmax finds the entry whose value is strictly the largest of those that drop to its index. -/
theorem argBest_apply {s t u : Shape} {axes : List (Fin s.rank)} (x : FVec Ideal s .f32) (y : IVec s 32)
    (ix : FVec Ideal u .f32) (iy : IVec u 32) (h : s.ReducesTo axes t) (hu : 0 < u.numel) (j : t.Idx) (i : s.Idx)
    (hi : h.drop i = j) (h0 : ix (Shape.Idx.first hu) < x i) (hw : ∀ k, h.drop k = j → k ≠ i → x k < x i) :
    argBest argStep x y ix iy h hu j = y i := by
  unfold argBest
  rw [Ideal.argReduce_eq_reduce2, Host.reduce2_eq_foldl_fiber]
  rw [fold_reach (x i, y i) _ _ h0]
  · unfold Host.argReduceFiber
    refine List.mem_map.2 ⟨s.rowMajor i, ?_, ?_⟩
    · rw [List.mem_filter]; refine ⟨List.mem_finRange _, ?_⟩
      simpa using hi
    · simp
  · intro p hp
    unfold Host.argReduceFiber at hp
    obtain ⟨n, hn, rfl⟩ := List.mem_map.1 hp
    have hd : h.drop (s.rowMajor.symm n) = j := by simpa using (List.mem_filter.1 hn).2
    by_cases e : s.rowMajor.symm n = i
    · exact Or.inl (by rw [e])
    · exact Or.inr (hw _ hd e)

/-- Per row, the place of the largest sum of logit and noise, the earliest among equals. -/
def best (l g : FVec Ideal S4096x16384 .f32) : IVec S4096 32 :=
  argBest (reducer_argmax_f32_i32 (F := Ideal)) (addf l g) (iotaInDim S4096x16384 32 1)
    (constant S_ .f32 0xFF800000#32) (constantI S_ 32 0#32) reducesTo_S4096x16384_S4096_d1 h_S_

/-- Per row, the bits that mark its place. -/
def marks (b : IVec S4096 32) : FVec Ideal S4096x16384 .f32 :=
  uitofp .f32 (cmpi .eq
    (broadcastInDim S4096x16384 ![0, 1] bcast_S4096x1_S4096x16384_0_1
      (broadcastInDim S4096x1 ![0] bcast_S4096_S4096x1_0 b))
    (broadcastInDim S4096x16384 ![0, 1] bcast_S1x16384_S4096x16384_0_1
      (broadcastInDim S1x16384 ![1] bcast_S16384_S1x16384_1 (iotaInDim S16384 32 0))))

/-- The first result for given places: the place, as a float, beside its row of the table. -/
def rowsAt (b : IVec S4096 32) (t : FVec Ideal S16384x2 .f32) : FVec Ideal S4096x3 .f32 :=
  concatenate S4096x3 1
    [⟨S4096x1, sitofp (F := Ideal) .f32 (broadcastInDim S4096x1 ![0] bcast_S4096_S4096x1_0 b)⟩,
      ⟨S4096x2, Host.dotGeneral dot_S4096x16384_S16384x2_S4096x2_1_0_0_1_n_n none (marks b) t⟩]
    concatenates_S4096x1_S4096x2_S4096x3_d1

/-- The scores of all rows. -/
def plane (l : FVec Ideal S4096x16384 .f32) (q : IVec S4096x16384 8) : FVec Ideal S4096x16384 .f32 :=
  addf l (addf (mulf (sitofp .f32 (extui 32 q natLt_8_32))
      (broadcastInDim S4096x16384 ![] bcast_S_S4096x16384 (constant S_ .f32 0x3DA34C21#32)))
    (broadcastInDim S4096x16384 ![] bcast_S_S4096x16384 (constant S_ .f32 0xC08C7B28#32)))

/-- The candidate bits of all rows. -/
def cand (u : FVec Ideal S4096x16384 .f32) : IVec S4096x16384 1 :=
  cmpf .oge u (broadcastInDim S4096x16384 ![0, 1] bcast_S4096x1_S4096x16384_0_1
    (subf (broadcastInDim S4096x1 ![0] bcast_S4096_S4096x1_0
        (Host.reduce FloatOps.maximumf u (constant S_ .f32 0xFF800000#32) reducesTo_S4096x16384_S4096_d1 h_S_))
      (broadcastInDim S4096x1 ![] bcast_S_S4096x1 (constant S_ .f32 0x3DA3570C#32))))

/-- Per row, how many candidates there are, as a word. -/
def tally (u : FVec Ideal S4096x16384 .f32) : IVec S4096 32 :=
  Host.reduce IntOp.addi (extui 32 (cand u) natLt_1_32) (constantI S_ 32 0#32) reducesTo_S4096x16384_S4096_d1 h_S_

/-- The second result: 1 where the row's number of candidates isn't one. -/
def flags (l : FVec Ideal S4096x16384 .f32) (q : IVec S4096x16384 8) : IVec S4096x1 32 :=
  extui 32 (cmpi .ne (broadcastInDim S4096x1 ![0] bcast_S4096_S4096x1_0 (tally (plane l q)))
    (broadcastInDim S4096x1 ![] bcast_S_S4096x1 (constantI S_ 32 1#32))) natLt_1_32

/-- A byte is the same number read signed after widening as read unsigned. -/
theorem byte_real (b : BitVec 8) :
    FloatOps.sitofp (F := Ideal) .f32 (b.setWidth 32) = FloatOps.uitofp (F := Ideal) .f32 b := by
  show (((b.setWidth 32).toInt : ℝ) : EReal) = ((b.toNat : ℝ) : EReal)
  have : (b.setWidth 32).toInt = (b.toNat : Int) := by
    rw [BitVec.toInt_eq_toNat_of_lt (by simp; omega)]
    have := b.isLt
    simp [BitVec.toNat_setWidth]; omega
  rw [this]; norm_cast

/-- The scores, entry by entry. -/
theorem plane_apply (l : FVec Ideal S4096x16384 .f32) (q : IVec S4096x16384 8) (r : Fin 4096) :
    (fun k => plane l q (ix2 r k)) = score (fun k => l (ix2 r k)) (fun k => q (ix2 r k)) := by
  funext k
  pointwise [plane, score, noisy]
  rw [byte_real]

/-- There are no more candidates than places. -/
theorem count_le (u : Fin 16384 → EReal) : count u ≤ 16384 := by
  have := Finset.card_le_univ (Finset.univ.filter fun k => near u k = 1#1)
  rwa [Fintype.card_fin] at this

/-- A small word is the word one exactly when its number is one. -/
theorem one_iff {n : ℕ} (hn : n ≤ 16384) : BitVec.ofNat 32 n = 1#32 ↔ n = 1 := by
  constructor
  · intro h
    have := congrArg BitVec.toNat h
    rw [BitVec.toNat_ofNat, BitVec.toNat_ofNat] at this
    omega
  · rintro rfl; rfl

/-- The comparison of two extended reals. -/
theorem oge (a b : EReal) : FloatOps.cmpf (F := Ideal) (φ := .f32) .oge a b = BitVec.ofBool (decide (b ≤ a)) := rfl

/-- A column spread over the places. -/
theorem spread (w : FVec Ideal S4096x1 .f32) (r : Fin 4096) (k : Fin 16384) :
    broadcastInDim S4096x16384 ![0, 1] bcast_S4096x1_S4096x16384_0_1 w (ix2 r k) = w (ix2 r 0) := by
  pointwise

/-- Entries compared with their row's bound. -/
theorem above (u : FVec Ideal S4096x16384 .f32) (w : FVec Ideal S4096x1 .f32) (r : Fin 4096) (k : Fin 16384) :
    cmpf .oge u (broadcastInDim S4096x16384 ![0, 1] bcast_S4096x1_S4096x16384_0_1 w) (ix2 r k)
      = BitVec.ofBool (decide (w (ix2 r 0) ≤ u (ix2 r k))) := by
  have h := spread w r k
  generalize broadcastInDim S4096x16384 ![0, 1] bcast_S4096x1_S4096x16384_0_1 w = w' at h
  show FloatOps.cmpf .oge (u (ix2 r k)) (w' (ix2 r k)) = _
  rw [h, oge]

/-- The greatest entry of a row. -/
theorem top (u : FVec Ideal S4096x16384 .f32) (r : Fin 4096) :
    Host.reduce FloatOps.maximumf u (constant (F := Ideal) S_ .f32 0xFF800000#32) reducesTo_S4096x16384_S4096_d1 h_S_ (ix1 r)
      = Finset.univ.fold max (Ideal.ofBits .f32 0xFF800000#32) (fun k => u (ix2 r k)) := by
  pointwise

/-- The bound of a row, from its greatest entry. -/
theorem below_top (w : FVec Ideal S4096 .f32) (r : Fin 4096) :
    subf (broadcastInDim S4096x1 ![0] bcast_S4096_S4096x1_0 w)
      (broadcastInDim S4096x1 ![] bcast_S_S4096x1 (constant (F := Ideal) S_ .f32 0x3DA3570C#32)) (ix2 r 0)
      = w (ix1 r) - Ideal.ofBits .f32 0x3DA3570C#32 := by
  pointwise

/-- The candidate bits, entry by entry. -/
theorem cand_apply (u : FVec Ideal S4096x16384 .f32) (r : Fin 4096) (k : Fin 16384) :
    cand u (ix2 r k) = near (fun k => u (ix2 r k)) k := by
  unfold cand near Row.floor tol
  rw [above, below_top, top]

/-- The number of candidates. -/
theorem tally_apply (u : FVec Ideal S4096x16384 .f32) (r : Fin 4096) :
    tally u (ix1 r) = BitVec.ofNat 32 (count fun k => u (ix2 r k)) := by
  pointwise [tally]
  simp only [cand_apply]
  exact Idealize.ShloMosaic.IndicatorCount.fold_addi_setWidth_eq_card (fun k => near (fun k => u (ix2 r k)) k) Finset.univ

/-- The flag of a row. -/
theorem flags_apply (l : FVec Ideal S4096x16384 .f32) (q : IVec S4096x16384 8) (r : Fin 4096) :
    flags l q (ix2 r 0)
      = if count (score (fun k => l (ix2 r k)) (fun k => q (ix2 r k))) = 1 then 0#32 else 1#32 := by
  have e1 : flags l q (ix2 r 0) = (IntOp.cmpi .ne (tally (plane l q) (ix1 r)) 1#32).setWidth 32 := by
    unfold flags
    generalize tally (plane l q) = w
    pointwise
  rw [e1, tally_apply, plane_apply]
  have hc := count_le (score (fun k => l (ix2 r k)) (fun k => q (ix2 r k)))
  generalize count (score (fun k => l (ix2 r k)) (fun k => q (ix2 r k))) = n at hc
  by_cases h : n = 1
  · rw [if_pos h, h]; rfl
  · rw [if_neg h]
    have : (BitVec.ofNat 32 n != 1#32) = true := bne_iff_ne.2 (mt (one_iff hc).1 h)
    show (BitVec.ofBool (BitVec.ofNat 32 n != 1#32)).setWidth 32 = _
    rw [this]; rfl

/-- The reference's argmax step is `argStep`. -/
theorem red_eq : (reducer_argmax_f32_i32 (F := Ideal)) = argStep := by
  funext a b
  rfl

/-- Dropping a place's axis leaves its row. -/
theorem drop_eq (r : Fin 4096) (k : Fin 16384) :
    (reducesTo_S4096x16384_S4096_d1 : S4096x16384.ReducesTo [1] S4096).drop (ix2 r k) = ix1 r := by
  funext b
  match b with
  | ⟨0, _⟩ => exact Fin.ext (Shape.ReducesTo.drop_apply_val_of_eq (axes := [1])
      (reducesTo_S4096x16384_S4096_d1 : S4096x16384.ReducesTo [1] S4096) (ix2 r k) (0 : Fin 1) 0)

/-- An entry that drops to a row is an entry of that row. -/
theorem drop_iff (i : S4096x16384.Idx) (r : Fin 4096)
    (h : (reducesTo_S4096x16384_S4096_d1 : S4096x16384.ReducesTo [1] S4096).drop i = ix1 r) : ∃ k, i = ix2 r k := by
  refine ⟨i 1, ?_⟩
  have h0 := congrArg Fin.val (congrFun h 0)
  rw [Shape.ReducesTo.drop_apply_val_of_eq (axes := [1])
    (reducesTo_S4096x16384_S4096_d1 : S4096x16384.ReducesTo [1] S4096) i (0 : Fin 1) 0] at h0
  funext a
  match a with
  | ⟨0, _⟩ => exact Fin.ext h0
  | ⟨1, _⟩ => rfl

/-- The place of a row whose largest sum is attained once. -/
theorem best_apply (l g : FVec Ideal S4096x16384 .f32) (r : Fin 4096) (j : Fin 16384)
    (hb : ⊥ < l (ix2 r j) + g (ix2 r j))
    (hw : ∀ k, k ≠ j → l (ix2 r k) + g (ix2 r k) < l (ix2 r j) + g (ix2 r j)) :
    best l g (ix1 r) = BitVec.ofNat 32 j.val := by
  have e := argBest_apply (addf l g) (iotaInDim S4096x16384 32 1)
    (constant S_ .f32 0xFF800000#32) (constantI S_ 32 0#32) reducesTo_S4096x16384_S4096_d1 h_S_ (ix1 r) (ix2 r j)
    (drop_eq r j) (by
      show Ideal.ofBits .f32 0xFF800000#32 < l (ix2 r j) + g (ix2 r j)
      rw [Row.ninf]; exact hb) (by
      intro i hi hne
      obtain ⟨k, rfl⟩ := drop_iff i r hi
      exact hw k fun h => hne (by rw [h]))
  unfold best
  rw [red_eq]
  exact e

/-- The marks' entries. -/
theorem marks_apply (b : IVec S4096 32) (r : Fin 4096) (k : Fin 16384) :
    marks b (ix2 r k) = FloatOps.uitofp (F := Ideal) .f32 (IntOp.cmpi .eq (b (ix1 r)) (BitVec.ofNat 32 k.val)) := by
  pointwise [marks]

/-- The product of the marks with the table. -/
theorem dot_apply (a : FVec Ideal S4096x16384 .f32) (t : FVec Ideal S16384x2 .f32) (r : Fin 4096) (d : Fin 2) :
    Host.dotGeneral dot_S4096x16384_S16384x2_S4096x2_1_0_0_1_n_n none a t (ix2 r d)
      = ∑ k, a (ix2 r k) * t (ix2 k d) := by
  pointwise

/-- The first result's entries: the place, or an entry of the product. -/
theorem cat_apply (b : IVec S4096 32) (w : FVec Ideal S4096x2 .f32) (r : Fin 4096) (c : Fin 3) :
    concatenate S4096x3 1
      [⟨S4096x1, sitofp (F := Ideal) .f32 (broadcastInDim S4096x1 ![0] bcast_S4096_S4096x1_0 b)⟩, ⟨S4096x2, w⟩]
      concatenates_S4096x1_S4096x2_S4096x3_d1 (ix2 r c)
      = if h : c.val < 1 then FloatOps.sitofp (F := Ideal) .f32 (b (ix1 r)) else w (ix2 r ⟨c.val - 1, by omega⟩) := by
  pointwise

/-- A place's row of the first result: the place and its row of the table. -/
theorem rowsAt_apply (b : IVec S4096 32) (t : FVec Ideal S16384x2 .f32) (r : Fin 4096) (j : Fin 16384)
    (hb : b (ix1 r) = BitVec.ofNat 32 j.val) (c : Fin 3) :
    rowsAt b t (ix2 r c)
      = if c.val = 0 then ((j.val : ℝ) : EReal) else if c.val = 1 then t (ix2 j 0) else t (ix2 j 1) := by
  have hd : ∀ d : Fin 2, ∑ k, marks b (ix2 r k) * t (ix2 k d) = t (ix2 j d) := by
    intro d
    have e : ∀ k, marks b (ix2 r k) = FloatOps.sitofp (F := Ideal) .f32
        ((IntOp.cmpi .eq (BitVec.ofNat 32 k.val) (BitVec.ofNat 32 j.val)).setWidth 32) := by
      intro k
      rw [marks_apply, hb]
      by_cases h : k = j
      · rw [(cmpi_ofNat (by omega) k j).2 h, (cmpi_ofNat (by omega) j k).2 h.symm]
        show (((1#1 : BitVec 1).toNat : ℝ) : EReal) = ((((1#1 : BitVec 1).setWidth 32).toInt : ℝ) : EReal)
        simp
      · have h0 : ∀ x : BitVec 1, x ≠ 1#1 → x = 0#1 := by decide
        rw [h0 _ (mt (cmpi_ofNat (by omega) k j).1 h), h0 _ (mt (cmpi_ofNat (by omega) j k).1 (Ne.symm h))]
        show (((0#1 : BitVec 1).toNat : ℝ) : EReal) = ((((0#1 : BitVec 1).setWidth 32).toInt : ℝ) : EReal)
        simp
    simp only [e]
    exact sum_single (fun k : Fin 16384 => IntOp.cmpi .eq (BitVec.ofNat 32 k.val) (BitVec.ofNat 32 j.val))
      (fun k => t (ix2 k d)) fun k => cmpi_ofNat (by omega) k j
  unfold rowsAt
  rw [cat_apply]
  by_cases h0 : c.val = 0
  · rw [dif_pos (by omega), if_pos h0, hb]
    show (((BitVec.ofNat 32 j.val).toInt : ℝ) : EReal) = _
    rw [toInt_small (by omega)]; norm_cast
  · rw [dif_neg (by omega), if_neg h0, dot_apply, hd]
    by_cases h1 : c.val = 1
    · rw [if_pos h1]; congr 2; exact Fin.ext (by simp [h1])
    · rw [if_neg h1]; congr 2; exact Fin.ext (by have := c.isLt; simp; omega)

end Cert.Ref

end
-- ==== Proof.RefRun.lean ====
/-
  The reference's run.
-/
module

public import proofs.«01_k».proof.Proof.Ref

@[expose] public section

noncomputable section

namespace Cert.Ref

open Idealize.ShloMosaic Idealize.SL.Sem Cert.ReferenceIdeal Cert.ReferenceIdeal.Gen

set_option maxHeartbeats 4000000 in
/-- The reference's run: it ends with its two results as defined above and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v12)
        = rowsAt (best (m ((c.tc : Thread nD τ).loc main_arg0)) (m ((c.tc : Thread nD τ).loc main_arg1))) (m ((c.tc : Thread nD τ).loc main_arg3))
      ∧ r.2.mem ((c.tc : Thread nD τ).loc main_v31)
        = flags (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  · unfold rowsAt marks best argBest
    rfl
  · rfl

end Cert.Ref

end
-- ==== Proof.Tie.lean ====
/-
  The agreement of the call's results with the reference's, at the rows that have a single candidate.
-/
module

public import proofs.«01_k».proof.Proof.Arrays
public import proofs.«01_k».proof.Proof.RefRun
public import proofs.«01_k».proof.Proof.Gen.Pre_noise
public import proofs.«01_k».proof.Proof.Gen.On_settled

@[expose] public section

noncomputable section

namespace Cert.Tie

open Idealize.ShloMosaic Idealize.ShloMosaic.TcCoe Idealize.SL.Sem Cert.Row

/-- A one-bit test of a word against one that holds says the word is one. -/
theorem test_one (w : BitVec 32) (h : IntOp.cmpi .eq w 1#32 = 1#1) : w = 1#32 := by
  by_contra hne
  have : (w == 1#32) = false := beq_eq_false_iff_ne.2 hne
  have e : IntOp.cmpi .eq w 1#32 = BitVec.ofBool (w == 1#32) := rfl
  rw [e, this] at h
  exact absurd h (by decide)

/-- The first result's mask compares each row's number of candidates with one. -/
theorem mask_eq [Cert.On_settled.Facts] (l g : FVec Ideal ⟨2, ![4096, 16384]⟩ .f32) (q : IVec ⟨2, ![4096, 16384]⟩ 8)
    (t : FVec Ideal ⟨2, ![16384, 2]⟩ .f32) :
    (Cert.On_settled.fn (F := Ideal) l g q t).1
      = broadcastInDim On_settled.S4096x3 ![0, 1] On_settled.Facts.bcast_S4096x1_S4096x3_0_1
          (cmpi .eq (broadcastInDim On_settled.S4096x1 ![0] On_settled.Facts.bcast_S4096_S4096x1_0 (Ref.tally (Ref.plane l q)))
            (broadcastInDim On_settled.S4096x1 ![] On_settled.Facts.bcast_S_S4096x1 (constantI On_settled.S_ 32 1#32))) := by
  unfold Cert.On_settled.fn Cert.On_settled.fn_part1 Ref.tally Ref.cand Ref.plane
  dsimp only

/-- An entry of that comparison. -/
theorem mask_entry [Cert.On_settled.Facts] (w : IVec On_settled.S4096 32) (r : Fin 4096) (d : Fin 3) :
    broadcastInDim On_settled.S4096x3 ![0, 1] On_settled.Facts.bcast_S4096x1_S4096x3_0_1
          (cmpi .eq (broadcastInDim On_settled.S4096x1 ![0] On_settled.Facts.bcast_S4096_S4096x1_0 w)
            (broadcastInDim On_settled.S4096x1 ![] On_settled.Facts.bcast_S_S4096x1 (constantI On_settled.S_ 32 1#32))) (ix2 r d)
      = IntOp.cmpi .eq (w (ix1 r)) 1#32 := by
  pointwise

/-- Where the first result's mask holds, the row has a single candidate. -/
theorem mask_apply [Cert.On_settled.Facts] (l g : FVec Ideal ⟨2, ![4096, 16384]⟩ .f32) (q : IVec ⟨2, ![4096, 16384]⟩ 8)
    (t : FVec Ideal ⟨2, ![16384, 2]⟩ .f32) (r : Fin 4096) (d : Fin 3)
    (h : (Cert.On_settled.fn (F := Ideal) l g q t).1 (ix2 r d) = 1#1) :
    count (score (fun k => l (ix2 r k)) (fun k => q (ix2 r k))) = 1 := by
  rw [mask_eq, mask_entry] at h
  have h1 := test_one _ h
  rw [Ref.tally_apply, Ref.plane_apply] at h1
  exact (Ref.one_iff (Ref.count_le _)).1 h1

/-- Two bits whose conjunction holds both hold. -/
theorem both (a b : BitVec 1) (h : a &&& b = 1#1) : a = 1#1 ∧ b = 1#1 := by
  revert a b; decide

/-- A comparison of extended reals that holds. -/
theorem ole (a b : EReal) (h : FloatOps.cmpf (F := Ideal) (φ := .f32) .ole a b = 1#1) : a ≤ b := by
  have e : FloatOps.cmpf (F := Ideal) (φ := .f32) .ole a b = BitVec.ofBool (decide (a ≤ b)) := rfl
  rw [e] at h
  by_contra hn
  rw [decide_eq_false hn] at h
  exact absurd h (by decide)

/-- An entry of the precondition. -/
theorem noise_entry [Cert.Pre_noise.Facts] (l g : FVec Ideal ⟨2, ![4096, 16384]⟩ .f32) (q : IVec ⟨2, ![4096, 16384]⟩ 8)
    (t : FVec Ideal ⟨2, ![16384, 2]⟩ .f32) (r : Fin 4096) (k : Fin 16384) :
    Cert.Pre_noise.fn (F := Ideal) l g q t (ix2 r k)
      = FloatOps.cmpf (F := Ideal) (φ := .f32) .ole (g (ix2 r k)) (noisy (q (ix2 r k)))
        &&& FloatOps.cmpf (F := Ideal) (φ := .f32) .ole (noisy (q (ix2 r k))) (g (ix2 r k) + tol) := by
  pointwise [Cert.Pre_noise.fn, noisy, tol]
  rw [Ref.byte_real]
  rfl

/-- The precondition, entry by entry: the noise lies below its quantised value, by at most the tolerance. -/
theorem noise_apply [Cert.Pre_noise.Facts] (l g : FVec Ideal ⟨2, ![4096, 16384]⟩ .f32) (q : IVec ⟨2, ![4096, 16384]⟩ 8)
    (t : FVec Ideal ⟨2, ![16384, 2]⟩ .f32) (h : Cert.Pre_noise.fn (F := Ideal) l g q t = fun _ => 1#1)
    (r : Fin 4096) (k : Fin 16384) :
    g (ix2 r k) ≤ noisy (q (ix2 r k)) ∧ noisy (q (ix2 r k)) ≤ g (ix2 r k) + tol := by
  have e := noise_entry l g q t r k
  rw [h] at e
  obtain ⟨a, b⟩ := both _ _ e.symm
  exact ⟨ole _ _ a, ole _ _ b⟩

section
open Cert.KernelIdeal Cert.KernelIdeal.Gen

variable (m : (ℓ : Loc nD τ sig) → Buf (Elt Ideal) ℓ) (c : Dev nD)

/-- The second results agree. -/
theorem flags_agree (i : (⟨2, ![4096, 1]⟩ : Shape).Idx) :
    Ref.flags (m ((c : Thread nD τ).loc main_arg0)) (m ((c : Thread nD τ).loc main_arg2)) i
      = (dats m 0 c).arrAt 5 cfg0.N i := by
  obtain ⟨r, d, rfl⟩ : ∃ (r : Fin 4096) (d : Fin 1), i = ix2 r d := ⟨i 0, i 1, (ix2_eta i).symm⟩
  obtain rfl : d = 0 := Subsingleton.elim _ _
  rw [Arrays.flag_at, Ref.flags_apply]

/-- The first results agree at every row with a single candidate. -/
theorem rows_agree [Cert.On_settled.Facts] [Cert.Pre_noise.Facts]
    (hn : Cert.Pre_noise.fn (F := Ideal) (m ((c : Thread nD τ).loc main_arg0)) (m ((c : Thread nD τ).loc main_arg1))
      (m ((c : Thread nD τ).loc main_arg2)) (m ((c : Thread nD τ).loc main_arg3)) = fun _ => 1#1)
    (i : (⟨2, ![4096, 3]⟩ : Shape).Idx)
    (hs : (Cert.On_settled.fn (F := Ideal) (m ((c : Thread nD τ).loc main_arg0)) (m ((c : Thread nD τ).loc main_arg1))
      (m ((c : Thread nD τ).loc main_arg2)) (m ((c : Thread nD τ).loc main_arg3))).1 i = 1#1) :
    Ref.rowsAt (Ref.best (m ((c : Thread nD τ).loc main_arg0)) (m ((c : Thread nD τ).loc main_arg1)))
        (m ((c : Thread nD τ).loc main_arg3)) i
      = (dats m 0 c).arrAt 4 cfg0.N i := by
  obtain ⟨r, d, rfl⟩ : ∃ (r : Fin 4096) (d : Fin 3), i = ix2 r d := ⟨i 0, i 1, (ix2_eta i).symm⟩
  have hc : count (Arrays.rowScores m c r) = 1 := mask_apply _ _ _ _ r d hs
  obtain ⟨j, hj⟩ := exists_only hc
  have hw := wins (fun k => m ((c : Thread nD τ).loc main_arg0) (ix2 r k))
    (fun k => m ((c : Thread nD τ).loc main_arg1) (ix2 r k)) (fun k => m ((c : Thread nD τ).loc main_arg2) (ix2 r k))
    (fun k => (noise_apply _ _ _ _ hn r k).1) (fun k => (noise_apply _ _ _ _ hn r k).2) hj
  obtain ⟨k, hk⟩ : ∃ k : Fin 16384, k ≠ j := exists_ne j
  rw [Arrays.row_at m c r j hj d]
  exact Ref.rowsAt_apply _ _ r j (Ref.best_apply _ _ r j (bot_le.trans_lt (hw k hk)) hw) d
end

end Cert.Tie

end
-- ==== Proof.Words.lean ====
module

public import proofs.«01_k».proof.Proof.Gen.Kernel2Ideal

@[expose] public section

/-!
The scalar arithmetic of the second call: how many batches of 64 rows a row count makes, which batch each
trip of the main loop fetches next, and where each transfer and each store lands. Every statement is about
integers only.
-/

namespace Cert.Proof.Words

open Idealize.ShloMosaic Cert.Kernel2Ideal

/-- The number of batches of 64 rows that `v` rows make. -/
def batches (v : BitVec 32) : Nat := (v.toNat + 63) / 64

/-- Up to 512 rows make at most eight batches. -/
theorem batches_le {v : BitVec 32} (h : v.toNat ≤ 512) : batches v ≤ 8 := by
  unfold batches; omega

/-- The bounds and trip counts of the two halves of the main loop, and the test before the first batch. -/
def LoopWords (v : BitVec 32) : Prop :=
  (k0_t2_loop v).OK ∧ (k0_t5_loop v).OK ∧ (k0_t2_loop v).trips = batches v ∧
    (k0_t5_loop v).trips = 0 ∧ (k0_cond1 v = 1#1 ↔ 0 < batches v)

/-- The test before each next batch: it is fetched exactly when there is one. -/
def NextWords (v : BitVec 32) : Prop :=
  ∀ t : Fin (k0_t2_loop v).trips, (k0_cond2 v t = 1#1 ↔ t.val + 1 < batches v)

/-- Whether a count passes the loop's bounds can be computed. -/
instance (v : BitVec 32) : Decidable (LoopWords v) := by unfold LoopWords; infer_instance
/-- Whether a count passes the next batch's bounds can be computed. -/
instance (v : BitVec 32) : Decidable (NextWords v) := by unfold NextWords; infer_instance

/-- Over every row count the list can have. -/
theorem words_all : ∀ n : Fin 513, LoopWords (BitVec.ofNat 32 n.val) ∧ NextWords (BitVec.ofNat 32 n.val) := by
  decide +kernel

/-- A property checked at every count up to 512 holds of a word of at most that value. -/
theorem words_of_le {v : BitVec 32} (h : v.toNat ≤ 512) : LoopWords v ∧ NextWords v := by
  have := words_all ⟨v.toNat, by omega⟩
  simpa using this

/-- The main loop takes one trip per batch. -/
theorem trips_main {v : BitVec 32} (h : v.toNat ≤ 512) : (k0_t2_loop v).trips = batches v := (words_of_le h).1.2.2.1
/-- The remainder loop takes none. -/
theorem trips_rest {v : BitVec 32} (h : v.toNat ≤ 512) : (k0_t5_loop v).trips = 0 := (words_of_le h).1.2.2.2.1
/-- The first batch is fetched exactly when there is one. -/
theorem first_iff {v : BitVec 32} (h : v.toNat ≤ 512) : k0_cond1 v = 1#1 ↔ 0 < batches v := (words_of_le h).1.2.2.2.2
/-- The next batch is fetched exactly when there is one. -/
theorem next_iff {v : BitVec 32} (h : v.toNat ≤ 512) (t : Fin (k0_t2_loop v).trips) :
    k0_cond2 v t = 1#1 ↔ t.val + 1 < batches v := (words_of_le h).2 t

/-- The words of one trip: its buffer half, the other half and its first row, as numbers. -/
theorem cell_words : ∀ t : Fin 8, (Scalar.subi 1#32 (Scalar.remsi (Scf.iv 0#32 1#32 t.val) 2#32)).toNat = (t.val + 1) % 2 ∧
    (Scalar.remsi (Scf.iv 0#32 1#32 t.val) 2#32).toNat = t.val % 2 ∧
    (Scalar.muli (Scf.iv 0#32 1#32 t.val) 64#32).toNat = 64 * t.val := by decide +kernel

/-- The word of a batch's slot in the list is the batch's first slot plus the line. -/
theorem row_words : ∀ t : Fin 8, ∀ j : Fin 64,
    (Scalar.addi (Scalar.muli (Scalar.addi (Scf.iv 0#32 1#32 t.val) 1#32) 64#32) (Scf.iv 0#32 1#32 j.val)).toNat % 512 =
      (64 * (t.val + 1) + j.val) % 512 ∧ (t.val + 1 < 8 →
    (Scalar.addi (Scalar.muli (Scalar.addi (Scf.iv 0#32 1#32 t.val) 1#32) 64#32) (Scf.iv 0#32 1#32 j.val)).toNat =
      64 * (t.val + 1) + j.val) := by decide +kernel

/-- The word that counts a line of a batch is the line's number. -/
theorem trip_words : ∀ j : Fin 64, (Scf.iv 0#32 1#32 j.val : BitVec 32).toNat = j.val := by decide +kernel

section
variable {v : BitVec 32} (h : v.toNat ≤ 512) (t : Fin (k0_t2_loop v).trips)
include h

/-- At most eight batches are swept. -/
theorem trip_lt : t.val < 8 := lt_of_lt_of_le t.isLt (trips_main h ▸ batches_le h)

/-- The list entry the fetch of row `j` of the next batch reads. -/
theorem off5_eq (j : Fin k0_t3_loop.trips) (hc : k0_cond2 v t = 1#1) : k0_off5 v t j = ![64 * (t.val + 1) + j.val] := by
  have ht := (next_iff h t).1 hc
  have hb := batches_le h
  have := (row_words ⟨t.val, trip_lt h t⟩ j).2 (by dsimp only; omega)
  exact congrArg (fun n : Nat => ![n]) this

/-- The offsets of the body's accesses, as numbers: the other half's semaphore, for the logits. -/
theorem off6_eq : k0_off6 v t = ![(t.val + 1) % 2] := congrArg (fun n : Nat => ![n]) (cell_words ⟨t.val, trip_lt h t⟩).1
/-- The other half's semaphore, for the noise. -/
theorem off9_eq : k0_off9 v t = ![(t.val + 1) % 2] := congrArg (fun n : Nat => ![n]) (cell_words ⟨t.val, trip_lt h t⟩).1
/-- The other half's line, for the logits. -/
theorem off7_eq (j : Fin k0_t3_loop.trips) : k0_off7 v t j = ![(t.val + 1) % 2, j.val, 0] :=
  congrArg₂ (fun m n : Nat => ![m, n, 0]) (cell_words ⟨t.val, trip_lt h t⟩).1 (trip_words j)
/-- The other half's line, for the noise. -/
theorem off10_eq (j : Fin k0_t3_loop.trips) : k0_off10 v t j = ![(t.val + 1) % 2, j.val, 0] :=
  congrArg₂ (fun m n : Nat => ![m, n, 0]) (cell_words ⟨t.val, trip_lt h t⟩).1 (trip_words j)
/-- The semaphore of this batch's half. -/
theorem off11_eq : k0_off11 v t = ![t.val % 2] := congrArg (fun n : Nat => ![n]) (cell_words ⟨t.val, trip_lt h t⟩).2.1
/-- This batch's half of the logits buffer. -/
theorem off12_eq : k0_off12 v t = ![t.val % 2, 0, 0] := congrArg (fun n : Nat => ![n, 0, 0]) (cell_words ⟨t.val, trip_lt h t⟩).2.1
/-- This batch's half of the noise buffer. -/
theorem off13_eq : k0_off13 v t = ![t.val % 2, 0, 0] := congrArg (fun n : Nat => ![n, 0, 0]) (cell_words ⟨t.val, trip_lt h t⟩).2.1
/-- This batch's rows of the results. -/
theorem off14_eq : k0_off14 v t = ![64 * t.val, 0] := congrArg (fun n : Nat => ![n, 0]) (cell_words ⟨t.val, trip_lt h t⟩).2.2
end

/-- Every access of the two halves of the main loop is in bounds, for a list of at most 512 rows. -/
theorem chk2_of_le {v : BitVec 32} (h : v.toNat ≤ 512) : k0_chk2 v := by
  have hb := batches_le h
  have h0 := trips_rest h
  refine ⟨(words_of_le h).1.1, fun t j hc a => ?_, fun t _ a => ?_, fun t j _ a => ?_, fun t _ a => ?_, fun t j _ a => ?_,
    fun t a => ?_, fun t a => ?_, fun t a => ?_, fun t a => ?_, (words_of_le h).1.2.1,
    fun t => (Fin.cast h0 t).elim0, fun t => (Fin.cast h0 t).elim0, fun t => (Fin.cast h0 t).elim0,
    fun t => (Fin.cast h0 t).elim0, fun t => (Fin.cast h0 t).elim0, fun t => (Fin.cast h0 t).elim0,
    fun t => (Fin.cast h0 t).elim0, fun t => (Fin.cast h0 t).elim0, fun t => (Fin.cast h0 t).elim0⟩
  · have ht := (next_iff h t).1 hc
    have hj : j.val < 64 := j.isLt
    rw [off5_eq h t j hc]; fin_cases a; dsimp; omega
  · rw [off6_eq h t]; fin_cases a; dsimp; omega
  · have hj : j.val < 64 := j.isLt
    rw [off7_eq h t j]; fin_cases a <;> dsimp <;> omega
  · rw [off9_eq h t]; fin_cases a; dsimp; omega
  · have hj : j.val < 64 := j.isLt
    rw [off10_eq h t j]; fin_cases a <;> dsimp <;> omega
  · rw [off11_eq h t]; fin_cases a; dsimp; omega
  · rw [off12_eq h t]; fin_cases a <;> dsimp <;> omega
  · rw [off13_eq h t]; fin_cases a <;> dsimp <;> omega
  · have ht := trip_lt h t
    rw [off14_eq h t]; fin_cases a <;> dsimp <;> omega

/-- A row number below 4096 names a row of both arrays. -/
theorem chk1_of_lt (v : BitVec 32) {r : BitVec 32} (h : r.toNat < 4096) : k0_chk1 v r := by
  intro _ a; unfold k0_off3; fin_cases a <;> dsimp <;> omega

/-- The same in the main loop. -/
theorem chk3_of_lt (v : BitVec 32) (t : Fin (k0_t2_loop v).trips) {r : BitVec 32} (h : r.toNat < 4096) : k0_chk3 v t r := by
  intro _ a; unfold k0_off8; fin_cases a <;> dsimp <;> omega

end Cert.Proof.Words
-- ==== Proof.Rows.lean ====
module

public import Idealize.ShloMosaic.PureOps
public import Idealize.ShloMosaic.Lib.Batch
public import Idealize.ShloMosaic.Lib.Ring
public import Idealize.ShloMosaic.Lib.Tactic

@[expose] public section

/-!
One gather of 64 table rows into one half of a two-half buffer: 64 row transfers counted on one semaphore,
all issued first and all awaited afterwards. What is held before, between and after, and the step of each
issue and of each wait. Stated for any table, buffer and semaphore array of these shapes; the second call
uses it for its two tables.
-/

noncomputable section

namespace Cert.Proof.Rows

open Idealize.ShloMosaic Idealize.ShloMosaic.TcCoe
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Tactic

/-- The table of rows, the two-half buffer of 64 rows each, one row inside either, and one row alone. -/
abbrev Tab : Shape := ⟨3, ![4096, 1, 16384]⟩
/-- A double buffer: two halves of 64 lines. -/
abbrev Halves : Shape := ⟨3, ![2, 64, 16384]⟩
/-- One half of a double buffer. -/
abbrev Half : Shape := ⟨3, ![1, 64, 16384]⟩
/-- One line, as it is cut out of a double buffer. -/
abbrev Cube : Shape := ⟨3, ![1, 1, 16384]⟩
/-- One line, as a copy delivers it. -/
abbrev Line : Shape := ⟨2, ![1, 16384]⟩
/-- The two semaphores of a double buffer. -/
abbrev Pair : Shape := ⟨1, ![2]⟩
/-- One semaphore, as it is cut out of the pair. -/
abbrev One : Shape := ⟨1, ![1]⟩
/-- One semaphore alone. -/
abbrev Nil : Shape := ⟨0, ![]⟩

/-- Each row of the table lies inside it. -/
theorem row_inb (r : Fin 4096) : ∀ a, (![r.val, 0, 0] : Fin 3 → Nat) a + Cube.size a ≤ Tab.size a := by
  have := r.isLt; intro a; fin_cases a
  · show r.val + 1 ≤ 4096; omega
  · show 0 + 1 ≤ 1; omega
  · show 0 + 16384 ≤ 16384; omega
/-- Each row of the buffer lies inside it. -/
theorem slot_inb (b : Fin 2) (j : Fin 64) : ∀ a, (![b.val, j.val, 0] : Fin 3 → Nat) a + Cube.size a ≤ Halves.size a := by
  have := b.isLt; have := j.isLt; intro a; fin_cases a
  · show b.val + 1 ≤ 2; omega
  · show j.val + 1 ≤ 64; omega
  · show 0 + 16384 ≤ 16384; omega
/-- Each half of the buffer lies inside it. -/
theorem half_inb (b : Fin 2) : ∀ a, (![b.val, 0, 0] : Fin 3 → Nat) a + Half.size a ≤ Halves.size a := by
  have := b.isLt; intro a; fin_cases a
  · show b.val + 1 ≤ 2; omega
  · show 0 + 64 ≤ 64; omega
  · show 0 + 16384 ≤ 16384; omega
/-- Each of the two semaphores lies inside their array. -/
theorem cell_inb (b : Fin 2) : ∀ a, (![b.val] : Fin 1 → Nat) a + One.size a ≤ Pair.size a := by
  have := b.isLt; intro a; fin_cases a
  show b.val + 1 ≤ 2; omega
/-- A line that is cut out of a buffer loses its leading axis. -/
theorem line_squeezes : Cube.Squeezes Line := by decide
/-- A semaphore that is cut out of the pair loses its axis. -/
theorem nil_squeezes : One.Squeezes Nil := by decide

variable {sig : RefSig} {Val : EltTy → Type} {nD : Nat} {τ : Topo}

/-- Row `r` of a table. -/
def row (A : Memref sig .tc .hbm Tab .f32) (r : Fin 4096) : Memref sig .tc .hbm Line .f32 :=
  (A.slice (Rect.unit (s := Tab) ![r.val, 0, 0] Cube.size (row_inb r)) (fun _ => rfl)).squeeze Line line_squeezes
/-- Row `j` of half `b` of a buffer. -/
def slot (B : Memref sig .tc .vmem Halves .f32) (b : Fin 2) (j : Fin 64) : Memref sig .tc .vmem Line .f32 :=
  (B.slice (Rect.unit (s := Halves) ![b.val, j.val, 0] Cube.size (slot_inb b j)) (fun _ => rfl)).squeeze Line line_squeezes
/-- Half `b` of a buffer, as a box. -/
abbrev halfBox (b : Fin 2) : Rect Halves := Rect.unit (s := Halves) ![b.val, 0, 0] Half.size (half_inb b)
/-- The semaphore of half `b`. -/
def cell (s : DmaSems sig Pair) (b : Fin 2) : DmaSem sig :=
  ((s.slice (Rect.unit (s := Pair) ![b.val] One.size (cell_inb b))).squeeze Nil nil_squeezes).sem

/-- The place of column `l` of row `r` in the table. -/
def place (r : Fin 4096) (l : Fin 16384) : Tab.Idx := fun a =>
  ⟨(![r.val, 0, l.val] : Fin 3 → Nat) a, by
    have := r.isLt; have := l.isLt
    fin_cases a
    · show r.val < 4096; omega
    · show 0 < 1; omega
    · show l.val < 16384; omega⟩

/-- Of the table's contents `X`, the rows that `ρ` names, laid out as a half (both halves alike). -/
def gather (A : Memref sig .tc .hbm Tab .f32) (X : A.view.ty.Contents Val) (ρ : Fin 64 → Fin 4096) : Halves.Idx → Val .f32 :=
  fun y => A.view.read Val X (place (ρ (y 1)) (y 2))

/-- The buffer's contents once the rows have arrived (over contents `f` that no longer show). -/
def filled (B : Memref sig .tc .vmem Halves .f32) (f : B.view.ty.Contents Val) (w : Halves.Idx → Val .f32) : B.view.ty.Contents Val :=
  B.view.write Val f w Finset.univ

/-- What the transfer of row `ρ j` into slot `j` leaves there is what `gather` says. -/
theorem arrived (A : Memref sig .tc .hbm Tab .f32) (B : Memref sig .tc .vmem Halves .f32) (b : Fin 2) (j : Fin 64)
    (X : A.view.ty.Contents Val) (ρ : Fin 64 → Fin 4096) (f fd : B.view.ty.Contents Val) :
    ∀ i ∈ (slot B b j).view.set,
      (slot B b j).view.write Val fd (ReadAs.same.apply ((row A (ρ j)).view.read Val X)) Finset.univ i = filled B f (gather A X ρ) i := by
  intro i hi
  obtain ⟨x, -, rfl⟩ := Finset.mem_map.mp hi
  have e : filled B f (gather A X ρ) ((slot B b j).view.emb x)
      = _root_.cast (congrArg Val B.view.elt_eq.symm) (gather A X ρ ((Rect.unit (s := Halves) ![b.val, j.val, 0] Cube.size (slot_inb b j)).emb
        (Shape.reshapeEquiv line_squeezes.numel_eq x))) :=
    View.write_emb_of_mem (v := B.view) f (gather A X ρ) (Finset.mem_univ _)
  refine (View.write_emb_of_mem (v := (slot B b j).view) fd _ (Finset.mem_univ x)).trans (Eq.trans ?_ e.symm)
  refine congrArg (_root_.cast _) ?_
  show A.view.read Val X ((Rect.unit (s := Tab) ![(ρ j).val, 0, 0] Cube.size (row_inb (ρ j))).emb (Shape.reshapeEquiv line_squeezes.numel_eq x)) = A.view.read Val X _
  generalize (Shape.reshapeEquiv line_squeezes.numel_eq x : Cube.Idx) = z
  refine congrArg (A.view.read Val X) (funext fun a => Fin.ext ?_)
  have h0 : (z 0).val < 1 := (z 0).isLt
  have h1 : (z 1).val < 1 := (z 1).isLt
  have hj : (⟨j.val + 1 * (z 1).val, by have := j.isLt; omega⟩ : Fin 64) = j := Fin.ext (by simp only []; omega)
  fin_cases a
  · show (ρ j).val + 1 * (z 0).val = (ρ (⟨j.val + 1 * (z 1).val, _⟩ : Fin 64)).val
    rw [hj]; omega
  · show 0 + 1 * (z 1).val = 0; omega
  · show 0 + 1 * (z 2).val = 0 + 1 * (z 2).val; rfl

/-- The elements of slot `j` of half `b`, and of half `b`. -/
abbrev slotSet (B : Memref sig .tc .vmem Halves .f32) (b : Fin 2) (j : Fin 64) : Finset B.view.ty.Idx := (slot B b j).view.set
/-- The cells of one half of a double buffer. -/
abbrev halfSet (B : Memref sig .tc .vmem Halves .f32) (b : Fin 2) : Finset B.view.ty.Idx := (B.view.slice (halfBox b)).set

/-- The elements of row `r` of a table. -/
abbrev rowSet (A : Memref sig .tc .hbm Tab .f32) (r : Fin 4096) : Finset A.view.ty.Idx := (row A r).view.set

/-- A slot's elements by coordinates. -/
theorem mem_slotSet (B : Memref sig .tc .vmem Halves .f32) (b : Fin 2) (j : Fin 64) (y : Halves.Idx) :
    B.view.emb y ∈ slotSet B b j ↔ (y 0).val = b.val ∧ (y 1).val = j.val := by
  have e : slotSet B b j = B.view.setOn (Rect.unit (s := Halves) ![b.val, j.val, 0] Cube.size (slot_inb b j)).set :=
    (View.set_reshape _ _).trans (View.set_slice _ _)
  rw [e, View.mem_setOn, Rect.mem_set_unit]
  have h2 : (y 2).val < 16384 := (y 2).isLt
  constructor
  · intro H
    have a0 : b.val ≤ (y 0).val ∧ (y 0).val < b.val + 1 := H 0
    have a1 : j.val ≤ (y 1).val ∧ (y 1).val < j.val + 1 := H 1
    omega
  · rintro ⟨e0, e1⟩ a; fin_cases a
    · show b.val ≤ (y 0).val ∧ (y 0).val < b.val + 1; omega
    · show j.val ≤ (y 1).val ∧ (y 1).val < j.val + 1; omega
    · show 0 ≤ (y 2).val ∧ (y 2).val < 0 + 16384; omega
/-- A half's elements by coordinates. -/
theorem mem_halfSet (B : Memref sig .tc .vmem Halves .f32) (b : Fin 2) (y : Halves.Idx) :
    B.view.emb y ∈ halfSet B b ↔ (y 0).val = b.val := by
  have e : halfSet B b = B.view.setOn (halfBox b).set := View.set_slice _ _
  rw [e, View.mem_setOn, Rect.mem_set_unit]
  have h1 : (y 1).val < 64 := (y 1).isLt
  have h2 : (y 2).val < 16384 := (y 2).isLt
  constructor
  · intro H
    have a0 : b.val ≤ (y 0).val ∧ (y 0).val < b.val + 1 := H 0
    omega
  · rintro e0 a; fin_cases a
    · show b.val ≤ (y 0).val ∧ (y 0).val < b.val + 1; omega
    · show 0 ≤ (y 1).val ∧ (y 1).val < 0 + 64; omega
    · show 0 ≤ (y 2).val ∧ (y 2).val < 0 + 16384; omega
/-- An element of a slot is an element of the buffer's view. -/
theorem slotSet_emb {B : Memref sig .tc .vmem Halves .f32} {b : Fin 2} {j : Fin 64} {i : B.view.ty.Idx} (h : i ∈ slotSet B b j) :
    ∃ y, B.view.emb y = i := by
  obtain ⟨x, -, rfl⟩ := Finset.mem_map.mp h
  exact ⟨_, rfl⟩
/-- An element of a half is an element of the buffer's view. -/
theorem halfSet_emb {B : Memref sig .tc .vmem Halves .f32} {b : Fin 2} {i : B.view.ty.Idx} (h : i ∈ halfSet B b) :
    ∃ y, B.view.emb y = i := by
  obtain ⟨x, -, rfl⟩ := Finset.mem_map.mp h
  exact ⟨_, rfl⟩
/-- Different slots share nothing. -/
theorem slots_disjoint (B : Memref sig .tc .vmem Halves .f32) (b : Fin 2) :
    ∀ j j', j ≠ j' → Disjoint (slotSet B b j) (slotSet B b j') := fun j j' hne => by
  rw [Finset.disjoint_left]; intro i hi hi'
  obtain ⟨y, rfl⟩ := slotSet_emb hi
  rw [mem_slotSet] at hi hi'
  exact hne (Fin.ext (by omega))
/-- The slots of a half make it up. -/
theorem slots_cover (B : Memref sig .tc .vmem Halves .f32) (b : Fin 2) :
    Finset.univ.biUnion (slotSet B b) = halfSet B b := by
  ext i; simp only [Finset.mem_biUnion, Finset.mem_univ, true_and]
  constructor
  · rintro ⟨j, hj⟩
    obtain ⟨y, rfl⟩ := slotSet_emb hj
    rw [mem_slotSet] at hj; rw [mem_halfSet]; exact hj.1
  · intro h
    obtain ⟨y, rfl⟩ := halfSet_emb h
    rw [mem_halfSet] at h
    exact ⟨y 1, (mem_slotSet B b _ y).mpr ⟨h, rfl⟩⟩
/-- The two halves share nothing. -/
theorem halves_disjoint (B : Memref sig .tc .vmem Halves .f32) :
    ∀ b b', b ≠ b' → Disjoint (halfSet B b) (halfSet B b') := fun b b' hne => by
  rw [Finset.disjoint_left]; intro i hi hi'
  obtain ⟨y, rfl⟩ := halfSet_emb hi
  rw [mem_halfSet] at hi hi'
  exact hne (Fin.ext (by omega))
/-- The two halves make up the buffer. -/
theorem halves_cover (B : Memref sig .tc .vmem Halves .f32) :
    Finset.univ.biUnion (halfSet B) = B.view.set := by
  ext i; simp only [Finset.mem_biUnion, Finset.mem_univ, true_and]
  constructor
  · rintro ⟨j, hj⟩
    obtain ⟨y, rfl⟩ := halfSet_emb hj
    exact B.view.emb_mem_set y
  · intro h
    obtain ⟨y, -, rfl⟩ := Finset.mem_map.mp h
    exact ⟨y 0, (mem_halfSet B _ y).mpr rfl⟩

variable {U : Type} [URA U]

local notation "𝕄" => MT nD τ sig Unit Val ℕ U ℕ

variable (EC : UEmb Counters (MT nD τ sig Unit Val ℕ U ℕ))
variable (c : Dev nD) (A : Memref sig .tc .hbm Tab .f32) (B : Memref sig .tc .vmem Halves .f32) (s : DmaSems sig Pair)
variable (X : Buf Val (A.view.loc (c : Thread nD τ))) (q : PosShare TreeShare) (b : Fin 2)
variable (f₀ : Buf Val (B.view.loc (c : Thread nD τ))) (ρ : Fin 64 → Fin 4096)

/-- A slot held, at contents `f`. -/
abbrev slotP (j : Fin 64) (f : Buf Val (B.view.loc (c : Thread nD τ))) : sProp 𝕄 :=
  B.view.loc (c : Thread nD τ) ↦[slotSet B b j]{fullShare} f
/-- A half held, at contents `f`. -/
abbrev halfP (f : Buf Val (B.view.loc (c : Thread nD τ))) : sProp 𝕄 :=
  B.view.loc (c : Thread nD τ) ↦[halfSet B b]{fullShare} f
/-- A table's row read, at share `q`. -/
abbrev rowP (r : Fin 4096) (q : PosShare TreeShare) : sProp 𝕄 :=
  A.view.loc (c : Thread nD τ) ↦[rowSet A r]{q} X
/-- The whole table read, at share `q`. -/
abbrev tabP (q : PosShare TreeShare) : sProp 𝕄 :=
  A.view.loc (c : Thread nD τ) ↦[A.view.set]{q} X

/-- What transfer `i` delivers: its slot filled, and the row's share back. -/
def delivered (i : Fin 64) : sProp 𝕄 :=
  iprop(slotP (Val := Val) (U := U) c B b i (filled B f₀ (gather A X ρ)) ∗ rowP c A X (ρ i) (Transfers.shareTokN q i.val))

/-- What a copy delivers can be kept with its semaphore. -/
instance delivered_storable (i : Fin 64) : BI.Storable (upEmb : UEmb _ 𝕄) (delivered c A B X q b f₀ ρ i) := by
  unfold delivered; infer_instance

/-- What of the table stays in hand while the transfers read their rows. -/
def kept : sProp 𝕄 :=
  iprop((A.view.loc (c : Thread nD τ) ↦[A.view.set]{Transfers.shareDrop q 64} X)
    ∗ bigSep Finset.univ (fun i : Fin 64 => A.view.loc (c : Thread nD τ) ↦[A.view.set \ rowSet A (ρ i)]{Transfers.shareTokN q i.val} X))

/-- A row's elements are elements of the table. -/
theorem rowSet_subset (r : Fin 4096) : rowSet A r ⊆ A.view.set := by
  have e : rowSet A r = (A.view.slice (Rect.unit (s := Tab) ![r.val, 0, 0] Cube.size (row_inb r))).set := View.set_reshape _ _
  rw [e]; exact View.set_slice_subset _ _

/-- Assertions that entail each other are equal. -/
theorem sProp_eq {P Q : sProp 𝕄} (h : P ⊣⊢ Q) : P = Q := BI.equiv_iff.mp ⟨h.1, h.2⟩

/-- The table's share lent out row by row, and back. -/
theorem lend : (tabP c A X q : sProp 𝕄)
    ⊣⊢ iprop(kept c A X q ρ ∗ bigSep Finset.univ (fun i : Fin 64 => rowP c A X (ρ i) (Transfers.shareTokN q i.val))) := by
  have h1 : (tabP c A X q : sProp 𝕄) = iprop((A.view.loc (c : Thread nD τ) ↦[A.view.set]{Transfers.shareDrop q 64} X)
      ∗ bigSep Finset.univ (fun i : Fin 64 => A.view.loc (c : Thread nD τ) ↦[A.view.set]{Transfers.shareTokN q i.val} X)) := by
    refine (sProp_eq (Transfers.pointsTo_toks_range q 64)).trans ?_
    rw [← Ring.rangeSet_univ (NB := 64), Ring.bigSep_rangeSet_eq_range (NB := 64) (lo := 0) (hi := 64) (le_refl _)
      (fun i => (A.view.loc (c : Thread nD τ) ↦[A.view.set]{Transfers.shareTokN q i} X : sProp 𝕄)) (fun k hk => by simp)]
  have h2 : (bigSep Finset.univ (fun i : Fin 64 => A.view.loc (c : Thread nD τ) ↦[A.view.set]{Transfers.shareTokN q i.val} X) : sProp 𝕄)
      = iprop(bigSep Finset.univ (fun i : Fin 64 => rowP c A X (ρ i) (Transfers.shareTokN q i.val))
        ∗ bigSep Finset.univ (fun i : Fin 64 => A.view.loc (c : Thread nD τ) ↦[A.view.set \ rowSet A (ρ i)]{Transfers.shareTokN q i.val} X)) :=
    (BI.bigSep_congr fun i _ => sProp_eq (pointsTo_split_subset (rowSet_subset A (ρ i)))).trans (BI.bigSep_sep _ _ _)
  rw [h1, h2]
  unfold kept
  constructor
  · iintro ⟨Ha, Hb, Hc⟩
    isplitl [Ha Hc]
    · isplitl [Ha] <;> iassumption
    · iexact Hb
  · iintro ⟨⟨Ha, Hc⟩, Hb⟩
    isplitl [Ha]; · iexact Ha
    isplitl [Hb] <;> iassumption

/-- What is held of one gather before any of its transfers: the half at any contents, the semaphore at zero, the table's share. -/
def free : sProp 𝕄 :=
  iprop((∃ f, halfP (Val := Val) (U := U) c B b f) ∗ semVal ((c : Thread nD τ), SemLoc.dma (cell s b)) 0 ∗ tabP c A X q)

/-- What is held after `j` issues: the transfers under way, and the slots and row shares still to go. -/
def issued (N j : ℕ) : sProp 𝕄 :=
  iprop(Transfers.Batch EC (c : Thread nD τ) (.dma (cell s b)) () N (delivered c A B X q b f₀ ρ) j 0 ∗ kept c A X q ρ
    ∗ bigSep (Ring.rangeSet 64 j 64) (fun i => iprop((∃ f, slotP (Val := Val) (U := U) c B b i f) ∗ rowP c A X (ρ i) (Transfers.shareTokN q i.val))))

/-- What is held after `j` of the waits: before the last, the transfers under way; after it, all that they delivered. -/
def awaited (N j : ℕ) : sProp 𝕄 :=
  iprop(kept c A X q ρ ∗ (if j < 64 then Transfers.Batch EC (c : Thread nD τ) (.dma (cell s b)) () N (delivered c A B X q b f₀ ρ) 64 (j * N)
    else iprop(bigSep Finset.univ (delivered (Val := Val) (U := U) c A B X q b f₀ ρ) ∗ semVal ((c : Thread nD τ), SemLoc.dma (cell s b)) 0)))

/-- What is held once all have arrived: the half filled, the semaphore at zero, the table's share. -/
def done : sProp 𝕄 :=
  iprop(halfP (Val := Val) (U := U) c B b (filled B f₀ (gather A X ρ)) ∗ semVal ((c : Thread nD τ), SemLoc.dma (cell s b)) 0 ∗ tabP c A X q)

/-- A gather done may be followed by another. -/
theorem free_of_done : done (Val := Val) (U := U) c A B s X q b f₀ ρ ⊢ free c A B s X q b := by
  unfold done free
  iintro ⟨Ha, Hb, Hc⟩
  isplitl [Ha]; · iexists _; iexact Ha
  isplitl [Hb] <;> iassumption

/-- A slot at given contents is one at some contents. -/
theorem slot_some (j : Fin 64) (f : Buf Val (B.view.loc (c : Thread nD τ))) :
    slotP (Val := Val) (U := U) c B b j f ⊢ iprop(∃ f, slotP c B b j f) := by
  iintro H; iexists f; iexact H

/-- Before the first issue. -/
theorem start [EC.LandsIn (upEmb : UEmb _ 𝕄)] (N : ℕ) :
    free (Val := Val) (U := U) c A B s X q b ⊢ |={Set.univ}=> issued EC c A B s X q b f₀ ρ N 0 := by
  unfold free issued
  iintro ⟨⟨%f, Hh⟩, Hs, Ht⟩
  imod (Transfers.batch_alloc' (Lvl := ℕ) EC (c : Thread nD τ) () N (delivered c A B X q b f₀ ρ) (sm := .dma (cell s b)) (E := Set.univ)) $$ Hs with HB
  imodintro
  isplitl [HB]; · iexact HB
  ihave Ht' := (lend c A X q ρ).1 $$ Ht
  icases Ht' with ⟨Hk, Hr⟩
  isplitl [Hk]; · iexact Hk
  rw [Ring.rangeSet_univ, BI.bigSep_sep']
  isplitl [Hh]
  · ihave Hh' := (Entails.of_eq (Ring.pointsTo_sub_blocks (slotSet B b) (slots_disjoint B b) (halfSet B b) (slots_cover B b) f)) $$ Hh
    iapply (show bigSep Finset.univ (fun i : Fin 64 => slotP (Val := Val) (U := U) c B b i f) ⊢ bigSep Finset.univ (fun i => iprop(∃ f, slotP (Val := Val) (U := U) c B b i f))
      from BI.bigSep_mono fun i _ => slot_some c B b i f)
    iexact Hh'
  · iexact Hr

/-- After the last issue, before the first wait. -/
theorem all_issued (N : ℕ) : issued (Val := Val) (U := U) EC c A B s X q b f₀ ρ N 64 ⊢ awaited EC c A B s X q b f₀ ρ N 0 := by
  unfold issued awaited
  rw [if_pos (by decide), Nat.zero_mul]
  iintro ⟨HB, Hk, -⟩
  isplitl [Hk] <;> iassumption

/-- After the last wait. -/
theorem all_awaited (N : ℕ) : awaited (Val := Val) (U := U) EC c A B s X q b f₀ ρ N 64 ⊢ done c A B s X q b f₀ ρ := by
  unfold awaited done
  rw [if_neg (by decide)]
  iintro ⟨Hk, HD, Hs⟩
  ihave HD' := (show bigSep Finset.univ (delivered (Val := Val) (U := U) c A B X q b f₀ ρ)
      ⊢ iprop(bigSep Finset.univ (fun i : Fin 64 => slotP (Val := Val) (U := U) c B b i (filled B f₀ (gather A X ρ)))
        ∗ bigSep Finset.univ (fun i : Fin 64 => rowP c A X (ρ i) (Transfers.shareTokN q i.val)))
    from Entails.of_eq (BI.bigSep_sep _ _ _)) $$ HD
  icases HD' with ⟨HS, HR⟩
  isplitl [HS]
  · iapply (Entails.of_eq (Ring.pointsTo_sub_blocks (slotSet B b) (slots_disjoint B b) (halfSet B b) (slots_cover B b) (filled B f₀ (gather A X ρ))).symm)
    iexact HS
  isplitl [Hs]; · iexact Hs
  iapply (lend c A X q ρ).2
  isplitl [Hk] <;> iassumption

variable {Λ : Labels} {defs : Defs nD τ sig Val Λ} (𝒱 : Variants) (bd : Option 𝒱.V)

/-- One issue. -/
theorem issue [EC.LandsIn (upEmb : UEmb _ 𝕄)] {α : Type} (N : ℕ) (j : Fin 64) (hN : (slot B b j).view.dmaCredit = N)
    {hsrc : (row A (ρ j)).view.WordExact} {hdst : (slot B b j).view.WordExact}
    {hsem : DmaTarget.Typed (nD := nD) (τ := τ) (p := .tc) .hbm (.dma (cell s b)) (.here (slot B b j))}
    {k : PUnit → Prog (TpuEff nD τ sig Val Λ .tc) α} {Q : α → sProp 𝕄} :
    issued (Val := Val) (U := U) EC c A B s X q b f₀ ρ N j.val
      ⊢ iprop((issued EC c A B s X q b f₀ ρ N (j.val + 1) -∗ wp frame (wpE defs 𝒱 (c : Thread nD τ) bd) Set.univ (k ⟨⟩) Q)
        -∗ wp frame (wpE defs 𝒱 (c : Thread nD τ) bd) Set.univ
          (.op (.enqueueDmaAs (row A (ρ j)) (.here (slot B b j)) .same (.dma (cell s b)) hsrc hdst hsem) k) Q) := by
  unfold issued
  rw [Ring.bigSep_rangeSet_head (NB := 64) (lo := j.val) (hi := 64) j.isLt j.isLt]
  have hD : ∀ f : Buf Val (B.view.loc (c : Thread nD τ)),
      iprop((B.view.loc (c : Thread nD τ) ↦[slotSet B b j]{fullShare} ((slot B b j).view.write Val f (ReadAs.same.apply ((row A (ρ j)).view.read Val X)) Finset.univ))
        ∗ rowP c A X (ρ j) (Transfers.shareTokN q j.val)) ⊢ (delivered c A B X q b f₀ ρ j : sProp 𝕄) := fun f => by
    unfold delivered slotP
    rw [pointsTo_congr (ℓ := B.view.loc (c : Thread nD τ)) (I := slotSet B b j) (arrived A B b j X ρ f₀ f)]
  iintro ⟨HB, Hk, ⟨⟨%f, Hs⟩, Hr⟩, Hrest⟩ Hcont
  iapply (Transfers.wp_dmaBatch (src := row A (ρ j)) (dst := slot B b j) (sm := .dma (cell s b)) (via := .same) (fs := X) (fd := f) (D := delivered c A B X q b f₀ ρ)
    (q := Transfers.shareTokN q j.val) (Sd := slotSet B b j) EC 𝒱 (c : Thread nD τ) bd () N hN (Finset.Subset.refl _) j.isLt (Nat.zero_le _) (hD f)) $$ [Hr Hs HB] [Hk Hrest Hcont]
  · isplitl [Hr]; · iexact Hr
    isplitl [Hs]; · iexact Hs
    iexact HB
  · iintro HB
    iapply Hcont
    isplitl [HB]; · iexact HB
    isplitl [Hk] <;> iassumption

/-- One issue, its operands however they are written. -/
theorem issue_at [EC.LandsIn (upEmb : UEmb _ 𝕄)] {α : Type} (N : ℕ) (j : Fin 64) (hN : (slot B b j).view.dmaCredit = N)
    {src : Memref sig .tc .hbm Line .f32} {dst : Memref sig .tc .vmem Line .f32} {sem : DmaSem sig}
    (es : src = row A (ρ j)) (ed : dst = slot B b j) (ec : sem = cell s b)
    {hsrc : src.view.WordExact} {hdst : dst.view.WordExact}
    {hsem : DmaTarget.Typed (nD := nD) (τ := τ) (p := .tc) .hbm (.dma sem) (.here dst)}
    {k : PUnit → Prog (TpuEff nD τ sig Val Λ .tc) α} {Q : α → sProp 𝕄} :
    issued (Val := Val) (U := U) EC c A B s X q b f₀ ρ N j.val
      ⊢ iprop((issued EC c A B s X q b f₀ ρ N (j.val + 1) -∗ wp frame (wpE defs 𝒱 (c : Thread nD τ) bd) Set.univ (k ⟨⟩) Q)
        -∗ wp frame (wpE defs 𝒱 (c : Thread nD τ) bd) Set.univ
          (.op (.enqueueDmaAs src (.here dst) .same (.dma sem) hsrc hdst hsem) k) Q) := by
  subst es ed ec
  exact issue EC c A B s X q b f₀ ρ 𝒱 bd N j hN

/-- One wait. -/
theorem wait [EC.LandsIn (upEmb : UEmb _ 𝕄)] {α : Type} (N : ℕ) (j : Fin 64) (hN0 : 0 < N)
    {srcw : Memref sig .tc .hbm Line .f32} {dstw : Memref sig .tc .vmem Line .f32} (hN : dstw.view.dmaCredit = N)
    {hsrc : srcw.view.WordExact} {hdst : dstw.view.WordExact}
    {sem : DmaSem sig} (ec : sem = cell s b)
    {k : PUnit → Prog (TpuEff nD τ sig Val Λ .tc) α} {Q : α → sProp 𝕄} :
    iprop(awaited (Val := Val) (U := U) EC c A B s X q b f₀ ρ N j.val ∗ ∃ W, owes (c : Thread nD τ) 0 W)
      ⊢ iprop((iprop(awaited EC c A B s X q b f₀ ρ N (j.val + 1) ∗ ∃ W, owes (c : Thread nD τ) 0 W) -∗ wp frame (wpE defs 𝒱 (c : Thread nD τ) bd) Set.univ (k ⟨⟩) Q)
        -∗ wp frame (wpE defs 𝒱 (c : Thread nD τ) bd) Set.univ
          (.op (.waitDma2 sem srcw dstw hsrc hdst) k) Q) := by
  subst ec
  have hj := j.isLt
  unfold awaited
  rw [if_pos hj]
  iintro ⟨⟨Hk, HB⟩, ⟨%W, HO⟩⟩ Hcont
  rcases Nat.lt_or_ge (j.val + 1) 64 with h | h
  · rw [if_pos h]
    iapply (Transfers.wp_waitBatch EC 𝒱 (c : Thread nD τ) bd () hN (n := 64) (D := delivered c A B X q b f₀ ρ) (u := j.val * N) (W := W)
      (by rw [Nat.mul_comm N 64, ← Nat.succ_mul]; exact Nat.mul_lt_mul_of_pos_right h hN0)) $$ [HB HO]
    · isplitl [HB] <;> iassumption
    iintro ⟨HB, HO⟩
    iapply Hcont
    isplitl [Hk HB]
    · isplitl [Hk]; · iexact Hk
      rw [Nat.succ_mul]
      iexact HB
    · iexists _; iexact HO
  · rw [if_neg (Nat.not_lt.mpr h)]
    iapply (Transfers.wp_waitBatchLast EC 𝒱 (c : Thread nD τ) bd () hN hN0 (n := 64) (D := delivered c A B X q b f₀ ρ) (u := j.val * N) (W := W)
      (by rw [show j.val = 63 by omega]; omega)) $$ [HB HO]
    · isplitl [HB] <;> iassumption
    iintro ⟨HD, HS, HO⟩
    iapply Hcont
    isplitl [Hk HD HS]
    · isplitl [Hk]; · iexact Hk
      isplitl [HD] <;> iassumption
    · iexists _; iexact HO

/-- A half's worth of fetched rows. -/
def rowsOf (A : Memref sig .tc .hbm Tab .f32) (X : A.view.ty.Contents Val) (ρ : Fin 64 → Fin 4096) : Half.Idx → Val .f32 :=
  fun y => A.view.read Val X (place (ρ (y 1)) (y 2))

/-- Reading a half that a gather filled gives the rows. -/
theorem read_half {off : Fin 3 → Nat} {inb : ∀ a, off a + Half.size a ≤ Halves.size a} (h : off = ![b.val, 0, 0]) :
    B.view.readAt Val (Rect.unit (s := Halves) off Half.size inb).toLoadRect (filled B f₀ (gather A X ρ)) = rowsOf A X ρ := by
  subst h
  funext y
  rw [View.readAt_apply]
  unfold filled
  rw [View.read_write_of_mem _ _ (Finset.mem_univ _)]
  unfold gather rowsOf
  congr 2
  · congr 1; exact Fin.ext (by show 0 + 1 * (y 1).val = (y 1).val; omega)
  · exact Fin.ext (by show 0 + 1 * (y 2).val = (y 2).val; omega)

/-- A load of a half that a gather filled. -/
theorem load_half {α : Type} {off : Fin 3 → Nat} {inb : ∀ a, off a + Half.size a ≤ Halves.size a} (h : off = ![b.val, 0, 0])
    {hl : B.view.LoadsAt (Rect.unit (s := Halves) off Half.size inb).toLoadRect}
    {k : (Half.Idx → Val .f32) → Prog (TpuEff nD τ sig Val Λ .tc) α} {Q : α → sProp 𝕄} :
    halfP (Val := Val) (U := U) c B b (filled B f₀ (gather A X ρ))
      ⊢ iprop((halfP (Val := Val) (U := U) c B b (filled B f₀ (gather A X ρ)) -∗ wp frame (wpE defs 𝒱 (c : Thread nD τ) bd) Set.univ (k (rowsOf A X ρ)) Q)
        -∗ wp frame (wpE defs 𝒱 (c : Thread nD τ) bd) Set.univ (.op (.load B (Rect.unit (s := Halves) off Half.size inb).toLoadRect hl) k) Q) := by
  have hS : B.view.setOn (Rect.unit (s := Halves) off Half.size inb).toLoadRect.set ⊆ halfSet B b := by
    subst h
    intro i hi
    obtain ⟨y, hy, rfl⟩ := Finset.mem_map.mp hi
    rw [mem_halfSet]
    have : (y 0).val < b.val + 1 ∧ b.val ≤ (y 0).val := by
      have := Rect.mem_set_unit.mp hy 0
      exact ⟨this.2, this.1⟩
    omega
  have hw := wp_load (Γ := []) (defs := defs) 𝒱 (c : Thread nD τ) bd Set.univ (Q := Q) (m := B) (hl := hl) (k := k) (q := fullShare) (f := filled B f₀ (gather A X ρ)) hS
  rw [read_half c A B X b f₀ ρ h] at hw
  exact hw

end Cert.Proof.Rows
-- ==== Proof.Fetch.lean ====
module

public import proofs.«01_k».proof.Proof.Words
public import proofs.«01_k».proof.Proof.Rows
public import proofs.«01_k».proof.Proof.Gen.Kernel2Ideal.Skeleton
public import proofs.«01_k».proof.Proof.Gen.Kernel2Ideal.Loops

@[expose] public section

/-!
The inner loops of the second call's kernel: one issues the 64 row transfers of a batch from each of the two
tables, the other awaits them.
-/

noncomputable section

namespace Cert.Proof.Fetch

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Kernel2Ideal Cert.Kernel2Ideal.Gen

variable {F : FTy → Type} [FloatOps F] {U : Type} [URA U]

local notation "𝕄" => MT nD τ sig Unit (Elt F) ℕ U ℕ

/-- A row of a buffer, however its place is written. -/
theorem slot_eq (B : Memref sig .tc .vmem S2x64x16384 .f32) (b : Fin 2) (j : Fin 64) (off : Fin 3 → Nat)
    (inb : ∀ a, off a + S1x1x16384.size a ≤ S2x64x16384.size a) (h : off = ![b.val, j.val, 0]) :
    (B.slice (Rect.unit (s := S2x64x16384) off S1x1x16384.size inb) (fun _ => rfl)).squeeze S1x16384 squeezes_S1x1x16384_S1x16384
      = Rows.slot B b j := by
  subst h; rfl

/-- A row of a table, however its place is written. -/
theorem row_eq (A : Memref sig .tc .hbm S4096x1x16384 .f32) (r : Fin 4096) (off : Fin 3 → Nat)
    (inb : ∀ a, off a + S1x1x16384.size a ≤ S4096x1x16384.size a) (h : off = ![r.val, 0, 0]) :
    (A.slice (Rect.unit (s := S4096x1x16384) off S1x1x16384.size inb) (fun _ => rfl)).squeeze S1x16384 squeezes_S1x1x16384_S1x16384
      = Rows.row A r := by
  subst h; rfl

/-- A semaphore of the pair, however its place is written. -/
theorem cell_eq (s : DmaSems sig S2) (b : Fin 2) (off : Fin 1 → Nat)
    (inb : ∀ a, off a + S1.size a ≤ S2.size a) (h : off = ![b.val]) :
    ((s.slice (Rect.unit (s := S2) off S1.size inb)).squeeze S_ squeezes_S1_S_).sem = Rows.cell s b := by
  subst h; rfl

/-- The table of logits. -/
abbrev tabL : Memref sig .tc .hbm S4096x1x16384 .f32 := Memref.whole main_v2
/-- The table of noise. -/
abbrev tabG : Memref sig .tc .hbm S4096x1x16384 .f32 := Memref.whole main_v0
/-- The double buffer of logits. -/
abbrev bufL : Memref sig .tc .vmem S2x64x16384 .f32 := Memref.whole cc0_scratch0
/-- The double buffer of noise. -/
abbrev bufG : Memref sig .tc .vmem S2x64x16384 .f32 := Memref.whole cc0_scratch1

/-- What one row transfer counts for on its semaphore. -/
abbrev unit : ℕ := (Rows.slot bufL 0 0).view.dmaCredit
/-- Each copy of a row of logits credits its semaphore the same amount. -/
theorem unit_L (b : Fin 2) (j : Fin 64) : (Rows.slot bufL b j).view.dmaCredit = unit := rfl
/-- Each copy of a row of noise credits its semaphore the same amount. -/
theorem unit_G (b : Fin 2) (j : Fin 64) : (Rows.slot bufG b j).view.dmaCredit = unit := rfl
/-- Any line of this shape is worth that amount. -/
theorem unit_any (m : Memref sig .tc .vmem S1x16384 .f32) : m.view.dmaCredit = unit := rfl
/-- That amount is positive. -/
theorem unit_pos : 0 < unit := View.dmaCredit_pos _ (by decide)

section Steps

variable (EC : UEmb Counters (MT nD τ sig Unit (Elt F) ℕ U ℕ)) [EC.LandsIn (upEmb : UEmb _ (MT nD τ sig Unit (Elt F) ℕ U ℕ))]
variable (𝒱 : Variants) (bd : Option 𝒱.V) (c : Dev nD)
variable (X Y : S4096x1x16384.Idx → Elt F .f32) (qL qG qR : PosShare TreeShare) (fL fG : S2x64x16384.Idx → Elt F .f32)
variable (R : S512.Idx → BitVec 32)

/-- The list of rows, read. -/
abbrev listP : sProp 𝕄 := (Memref.whole main_arg5 : Memref sig .tc .smem S512 .i32).view.loc (c : Thread nD τ) ↦{qR} R

/-- The two gathers of a batch after `j` issues each. -/
def issuedAt (b : Fin 2) (ρ : Fin 64 → Fin 4096) (j : ℕ) : sProp 𝕄 :=
  iprop(listP c qR R ∗ Rows.issued EC c tabL bufL cc0_scratch3 X qL b fL ρ unit j ∗ Rows.issued EC c tabG bufG cc0_scratch4 Y qG b fG ρ unit j)

variable (i : grid0.Coords) (arg2 : Memref sig .tc .smem S1 .i32) (harg2 : arg2.IsWhole) (arg5 : Memref sig .tc .vmem S2x16384 .f32) (harg5 : arg5.IsWhole) (arg6 : Memref sig .tc .vmem S4096x3 .f32) (harg6 : arg6.IsWhole) (arg7 : Memref sig .tc .vmem S4096x1 .i32) (harg7 : arg7.IsWhole) (arg8 : Memref sig .tc .vmem S4096x1 .i32) (harg8 : arg8.IsWhole) (arg9 : Memref sig .tc .vmem S4096x3 .f32) (harg9 : arg9.IsWhole) (arg12 : Memref sig .tc .vmem S512x3 .f32) (harg12 : arg12.IsWhole) (v0 : BitVec 32)

/-- One step of the first batch's start: both copies of one line are under way. -/
theorem first_step (k0_h1 : k0_cond1 v0 = 1#1) (ρ : Fin 64 → Fin 4096) (hR : ∀ j : Fin 64, ∀ y : S512.Idx, (y 0).val = j.val → (R y).toNat = (ρ j).val)
    (j : Fin k0_t1_loop.trips) (acc : Unit) :
    issuedAt EC c X Y qL qG qR fL fG R 0 ρ j.val ⊢ wp frame (wpE defs₀ 𝒱 (c : Thread nD τ) bd) Set.univ
      (Gen.k0_t1_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) arg12 harg12 cc0_scratch3 cc0_scratch4 v0 k0_h1 j acc)
      (fun _ => issuedAt EC c X Y qL qG qR fL fG R 0 ρ (j.val + 1)) := by
  unfold issuedAt
  iintro ⟨HR, HL, HG⟩
  dsimp only [Gen.k0_t1_body]
  sl_exec
  generalize hw : first_step.sl.r R j = w
  have hwr : w.toNat = (ρ ⟨j.val, j.isLt⟩).val := by
    rw [← hw]; exact hR ⟨j.val, j.isLt⟩ _ (by
      show k0_off1 j 0 + 0 = j.val
      rw [k0_off1_eq]; rfl)
  have hchk : k0_chk1 v0 w := Words.chk1_of_lt v0 (by have := (ρ ⟨j.val, j.isLt⟩).isLt; omega)
  iapply (wp_assume 𝒱 (c : Thread nD τ) bd Set.univ hchk)
  iapply (Rows.issue_at EC c tabL bufL cc0_scratch3 X qL 0 fL ρ 𝒱 bd unit ⟨j.val, j.isLt⟩ (unit_L _ _)
    (row_eq _ _ _ _ (by rw [show k0_off3 w = ![w.toNat, 0, 0] from rfl, hwr])) (slot_eq _ _ _ _ _ (k0_off2_eq j)) (cell_eq _ _ _ _ rfl)) $$ HL
  iintro HL
  iapply (Rows.issue_at EC c tabG bufG cc0_scratch4 Y qG 0 fG ρ 𝒱 bd unit ⟨j.val, j.isLt⟩ (unit_G _ _)
    (row_eq _ _ _ _ (by rw [show k0_off3 w = ![w.toNat, 0, 0] from rfl, hwr])) (slot_eq _ _ _ _ _ (k0_off4_eq j)) (cell_eq _ _ _ _ rfl)) $$ HG
  iintro HG
  simp only [Prog.bind]
  sl_step
  isplitl [HR]; · iexact HR
  isplitl [HL]; · iexact HL
  iexact HG

/-- One turn of the loop that fetches the next batch. -/
theorem next_step (hv : v0.toNat ≤ 512) (k0_hw2 : k0_chk2 v0) (v19 c0 c1 : BitVec 32) (t : Fin (k0_t2_loop v0).trips) (k0_h2 : k0_cond2 v0 t = 1#1)
    (b : Fin 2) (hb : b.val = (t.val + 1) % 2) (ρ : Fin 64 → Fin 4096)
    (hR : ∀ j : Fin 64, ∀ y : S512.Idx, (y 0).val = 64 * (t.val + 1) + j.val → (R y).toNat = (ρ j).val)
    (j : Fin k0_t3_loop.trips) (acc : BitVec 32) :
    issuedAt EC c X Y qL qG qR fL fG R b ρ j.val ⊢ wp frame (wpE defs₀ 𝒱 (c : Thread nD τ) bd) Set.univ
      (Gen.k0_t3_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) arg12 harg12 cc0_scratch3 cc0_scratch4 v0 k0_hw2 v19 c0 c1 t k0_h2 j acc)
      (fun _ => issuedAt EC c X Y qL qG qR fL fG R b ρ (j.val + 1)) := by
  unfold issuedAt
  iintro ⟨HR, HL, HG⟩
  dsimp only [Gen.k0_t3_body]
  sl_exec
  generalize hw : next_step.sl.r R v0 k0_hw2 t k0_h2 j = w
  have hwr : w.toNat = (ρ ⟨j.val, j.isLt⟩).val := by
    rw [← hw]; exact hR ⟨j.val, j.isLt⟩ _ (by
      show k0_off5 v0 t j 0 + 0 = _
      rw [Words.off5_eq hv t j k0_h2]; rfl)
  have hchk : k0_chk3 v0 t w := Words.chk3_of_lt v0 t (by have := (ρ ⟨j.val, j.isLt⟩).isLt; omega)
  iapply (wp_assume 𝒱 (c : Thread nD τ) bd Set.univ hchk)
  iapply (Rows.issue_at EC c tabL bufL cc0_scratch3 X qL b fL ρ 𝒱 bd unit ⟨j.val, j.isLt⟩ (unit_L _ _)
    (row_eq _ _ _ _ (by rw [show k0_off8 w = ![w.toNat, 0, 0] from rfl, hwr])) (slot_eq _ _ _ _ _ (by rw [Words.off7_eq hv, hb])) (cell_eq _ _ _ _ (by rw [Words.off6_eq hv, hb]))) $$ HL
  iintro HL
  iapply (Rows.issue_at EC c tabG bufG cc0_scratch4 Y qG b fG ρ 𝒱 bd unit ⟨j.val, j.isLt⟩ (unit_G _ _)
    (row_eq _ _ _ _ (by rw [show k0_off8 w = ![w.toNat, 0, 0] from rfl, hwr])) (slot_eq _ _ _ _ _ (by rw [Words.off10_eq hv, hb])) (cell_eq _ _ _ _ (by rw [Words.off9_eq hv, hb]))) $$ HG
  iintro HG
  simp only [Prog.bind]
  sl_step
  isplitl [HR]; · iexact HR
  isplitl [HL]; · iexact HL
  iexact HG

/-- The two gathers of a batch after `j` awaits each. -/
def awaitedAt (b : Fin 2) (ρ : Fin 64 → Fin 4096) (j : ℕ) : sProp 𝕄 :=
  iprop(Rows.awaited EC c tabL bufL cc0_scratch3 X qL b fL ρ unit j ∗ Rows.awaited EC c tabG bufG cc0_scratch4 Y qG b fG ρ unit j ∗ ∃ W, owes (c : Thread nD τ) 0 W)

/-- One turn of the loop that awaits a batch. -/
theorem await_step (hv : v0.toNat ≤ 512) (k0_hw2 : k0_chk2 v0) (v19 c0 c1 : BitVec 32) (t : Fin (k0_t2_loop v0).trips)
    (b : Fin 2) (hb : b.val = t.val % 2) (ρ : Fin 64 → Fin 4096) (j : Fin k0_t4_loop.trips) (acc : BitVec 32) :
    awaitedAt EC c X Y qL qG fL fG b ρ j.val ⊢ wp frame (wpE defs₀ 𝒱 (c : Thread nD τ) bd) Set.univ
      (Gen.k0_t4_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) arg12 harg12 cc0_scratch3 cc0_scratch4 v0 k0_hw2 v19 c0 c1 t j acc)
      (fun _ => awaitedAt EC c X Y qL qG fL fG b ρ (j.val + 1)) := by
  unfold awaitedAt
  iintro ⟨HL, HG, HO⟩
  dsimp only [Gen.k0_t4_body]
  iapply (Rows.wait EC c tabL bufL cc0_scratch3 X qL b fL ρ 𝒱 bd unit ⟨j.val, j.isLt⟩ unit_pos (unit_any _) (cell_eq _ _ _ _ (by rw [Words.off11_eq hv, hb]))) $$ [HL HO]
  · isplitl [HL]; · iexact HL
    iexact HO
  iintro ⟨HL, HO⟩
  iapply (Rows.wait EC c tabG bufG cc0_scratch4 Y qG b fG ρ 𝒱 bd unit ⟨j.val, j.isLt⟩ unit_pos (unit_any _) (cell_eq _ _ _ _ (by rw [Words.off11_eq hv, hb]))) $$ [HG HO]
  · isplitl [HG]; · iexact HG
    iexact HO
  iintro ⟨HG, HO⟩
  simp only [Prog.bind]
  sl_step
  isplitl [HL]; · iexact HL
  isplitl [HG]; · iexact HG
  iexact HO

end Steps
end Cert.Proof.Fetch
-- ==== Proof.Sweep.lean ====
module

public import Idealize.ShloMosaic.Lib.Pipeline.FrameBody
public import proofs.«01_k».proof.Proof.Fetch

@[expose] public section

/-!
The main loop of the second call's kernel: batch by batch, the next batch's rows fetched while this batch's are
reduced, and this batch's results stored.
-/

noncomputable section

namespace Cert.Proof.Sweep

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Cert.Kernel2Ideal Cert.Kernel2Ideal.Gen Cert.Proof.Fetch

variable {F : FTy → Type} [FloatOps F] {U : Type} [URA U]

local notation "𝕄" => MT nD τ sig Unit (Elt F) ℕ U ℕ

/-- The half of a buffer that batch `k` uses. -/
def half (k : ℕ) : Fin 2 := ⟨k % 2, Nat.mod_lt _ (by decide)⟩

/-- Two batches on, the half is the same. -/
theorem half_two (k : ℕ) : half (k + 2) = half k := Fin.ext (by show (k + 2) % 2 = k % 2; omega)

/-- Row `r`, column `l` of a batch's results. -/
def at64 (r : Fin 64) (l : Fin 3) : S64x3.Idx := fun a =>
  ⟨(![r.val, l.val] : Fin 2 → Nat) a, by
    have := r.isLt; have := l.isLt
    fin_cases a
    · show r.val < 64; omega
    · show l.val < 3; omega⟩

section Values
variable (X Y : S4096x1x16384.Idx → Elt F .f32) (q0 q1 : S1x16384.Idx → Elt F .f32) (ρ : ℕ → Fin 64 → Fin 4096)

/-- What batch `k` stores. -/
def piece (k : ℕ) : S64x3.Idx → Elt F .f32 :=
  k0_pay11 (F := F) (k0_pay2 (Rows.rowsOf tabL X (ρ k)) (Rows.rowsOf tabG Y (ρ k))) (k0_pay3 (Rows.rowsOf tabL X (ρ k)) (Rows.rowsOf tabG Y (ρ k)))
    (k0_pay4 (Rows.rowsOf tabL X (ρ k)) (Rows.rowsOf tabG Y (ρ k)) q0) (Scalar.ofBits .f32 0x00000000#32) (k0_pay5 q1)

/-- The results buffer before batch `k`: the batches before it stored, zeros after. -/
def resAt (k : ℕ) : S512x3.Idx → Elt F .f32 := fun y =>
  if (y 0).val < 64 * k then piece X Y q0 q1 ρ ((y 0).val / 64) (at64 ⟨(y 0).val % 64, Nat.mod_lt _ (by decide)⟩ (y 1)) else k0_pay10 (F := F) y

/-- Storing a batch's results. -/
theorem store_piece (k : ℕ) (off : Fin 2 → Nat) (inb : ∀ a, off a + S64x3.size a ≤ S512x3.size a) (h : off = ![64 * k, 0]) :
    ((Memref.whole cc0_scratch2 : Memref sig .tc .vmem S512x3 .f32).access (Rect.unit (s := S512x3) off S64x3.size inb)).write (Elt F)
      (resAt X Y q0 q1 ρ k) (piece X Y q0 q1 ρ k) Finset.univ = resAt X Y q0 q1 ρ (k + 1) := by
  subst h
  have hk : 64 * k + 64 ≤ 512 := inb 0
  funext y
  have h1 : (y 1).val < 3 := (y 1).isLt
  by_cases hy : 64 * k ≤ (y 0).val ∧ (y 0).val < 64 * k + 64
  · have hx : y = ((Memref.whole cc0_scratch2 : Memref sig .tc .vmem S512x3 .f32).access (Rect.unit (s := S512x3) ![64 * k, 0] S64x3.size inb)).emb
        (at64 ⟨(y 0).val - 64 * k, by omega⟩ (y 1)) := by
      funext a; fin_cases a
      · exact Fin.ext (by show (y 0).val = 64 * k + 1 * ((y 0).val - 64 * k); omega)
      · exact Fin.ext (by show (y 1).val = 0 + 1 * (y 1).val; omega)
    have e1 : (y 0).val / 64 = k := by omega
    have e2 : (y 0).val % 64 = (y 0).val - 64 * k := by omega
    have hr : resAt X Y q0 q1 ρ (k + 1) y = piece X Y q0 q1 ρ k (at64 ⟨(y 0).val - 64 * k, by omega⟩ (y 1)) := by
      unfold resAt
      rw [if_pos (by omega), e1]
      congr 2
      exact Fin.ext e2
    rw [hr]
    conv_lhs => rw [hx]
    rw [View.write_emb_of_mem _ _ (Finset.mem_univ _)]
    rfl
  · rw [View.write_of_not_mem]
    · unfold resAt
      by_cases h' : (y 0).val < 64 * k
      · rw [if_pos h', if_pos (by omega)]
      · rw [if_neg h', if_neg (by omega)]
    · intro hm
      obtain ⟨x, -, rfl⟩ := Finset.mem_map.mp hm
      have hx0 : (x 0).val < 64 := (x 0).isLt
      apply hy
      show 64 * k ≤ 64 * k + 1 * (x 0).val ∧ 64 * k + 1 * (x 0).val < 64 * k + 64
      omega

/-- The same store as an entry of a list of stores. -/
theorem store_listed (k : ℕ) (off : Fin 2 → Nat) (inb : ∀ a, off a + S64x3.size a ≤ S512x3.size a) (h : off = ![64 * k, 0])
    (w : S64x3.Idx → Elt F .f32) (hw : w = piece X Y q0 q1 ρ k) :
    (Memref.whole cc0_scratch2 : Memref sig .tc .vmem S512x3 .f32).view.writes (Elt F) (resAt X Y q0 q1 ρ k)
      [⟨Rect.unit (s := S512x3) off S64x3.size inb, w⟩] = resAt X Y q0 q1 ρ (k + 1) := by
  subst hw
  exact store_piece X Y q0 q1 ρ k off inb h

/-- Zeroing the results buffer leaves it as before the first batch. -/
theorem store_zero (f : S512x3.Idx → Elt F .f32) :
    (Memref.whole cc0_scratch2 : Memref sig .tc .vmem S512x3 .f32).view.writes (Elt F) f
      [⟨Rect.unit (s := S512x3) ![0, 0] S512x3.size inb_S512x3_S512x3_0_0, k0_pay10 (F := F)⟩] = resAt X Y q0 q1 ρ 0 := by
  show ((Memref.whole cc0_scratch2 : Memref sig .tc .vmem S512x3 .f32).access (Rect.unit (s := S512x3) ![0, 0] S512x3.size inb_S512x3_S512x3_0_0)).write (Elt F)
      f (k0_pay10 (F := F)) Finset.univ = resAt X Y q0 q1 ρ 0
  funext y
  have hx : y = ((Memref.whole cc0_scratch2 : Memref sig .tc .vmem S512x3 .f32).access (Rect.unit (s := S512x3) ![0, 0] S512x3.size inb_S512x3_S512x3_0_0)).emb y := by
    funext a; fin_cases a
    · exact Fin.ext (by show (y 0).val = 0 + 1 * (y 0).val; omega)
    · exact Fin.ext (by show (y 1).val = 0 + 1 * (y 1).val; omega)
  have hr : resAt X Y q0 q1 ρ 0 y = k0_pay10 y := if_neg (Nat.not_lt_zero _)
  rw [hr]
  conv_lhs => rw [hx]
  rw [View.write_emb_of_mem _ _ (Finset.mem_univ _)]
  rfl

end Values

/-- A program's head run on its own, then the rest. -/
theorem wp_head (𝒱 : Variants) (bd : Option 𝒱.V) (c : Dev nD) {α β : Type} {P : sProp 𝕄} {p : Prog (TpuEff nD τ sig (Elt F) Λ₀ .tc) α} {R : α → sProp 𝕄}
    (h : P ⊢ wp frame (wpE defs₀ 𝒱 (c : Thread nD τ) bd) Set.univ p R) {k : α → Prog (TpuEff nD τ sig (Elt F) Λ₀ .tc) β} {Q : β → sProp 𝕄} :
    P ⊢ iprop((∀ a, R a -∗ wp frame (wpE defs₀ 𝒱 (c : Thread nD τ) bd) Set.univ (k a) Q)
      -∗ wp frame (wpE defs₀ 𝒱 (c : Thread nD τ) bd) Set.univ (p >>= k) Q) := by
  rw [wp_bind]
  exact h.trans (wp_wand _ _ _)

section Loop

variable (EC : UEmb Counters (MT nD τ sig Unit (Elt F) ℕ U ℕ)) [EC.LandsIn (upEmb : UEmb _ (MT nD τ sig Unit (Elt F) ℕ U ℕ))]
variable (𝒱 : Variants) (bd : Option 𝒱.V) (c : Dev nD)
variable (X Y : S4096x1x16384.Idx → Elt F .f32) (qL qG : Fin 2 → PosShare TreeShare) (qR qQ : PosShare TreeShare) (fL fG : S2x64x16384.Idx → Elt F .f32)
variable (R : S512.Idx → BitVec 32) (ρ : ℕ → Fin 64 → Fin 4096)

/-- Batch `k`'s rows on their way, all issued. -/
def pending (k : ℕ) : sProp 𝕄 :=
  iprop(Rows.awaited EC c tabL bufL cc0_scratch3 X (qL (half k)) (half k) fL (ρ k) unit 0 ∗ Rows.awaited EC c tabG bufG cc0_scratch4 Y (qG (half k)) (half k) fG (ρ k) unit 0)

/-- The half batch `k` uses, with nothing on its way. -/
def idle (k : ℕ) : sProp 𝕄 :=
  iprop(Rows.free c tabL bufL cc0_scratch3 X (qL (half k)) (half k) ∗ Rows.free c tabG bufG cc0_scratch4 Y (qG (half k)) (half k))

/-- Two batches on, the same. -/
theorem idle_two (k : ℕ) : idle (F := F) (U := U) c X Y qL qG (k + 2) = idle c X Y qL qG k := by
  unfold idle; rw [half_two]

variable (i : grid0.Coords) (arg2 : Memref sig .tc .smem S1 .i32) (harg2 : arg2.IsWhole) (arg5 : Memref sig .tc .vmem S2x16384 .f32) (harg5 : arg5.IsWhole) (arg6 : Memref sig .tc .vmem S4096x3 .f32) (harg6 : arg6.IsWhole) (arg7 : Memref sig .tc .vmem S4096x1 .i32) (harg7 : arg7.IsWhole) (arg8 : Memref sig .tc .vmem S4096x1 .i32) (harg8 : arg8.IsWhole) (arg9 : Memref sig .tc .vmem S4096x3 .f32) (harg9 : arg9.IsWhole) (v0 : BitVec 32)
variable (Q5 : Buf (Elt F) (arg5.view.loc (c : Thread nD τ)))

/-- The first row of the transposed table, as loaded. -/
abbrev row0 : S1x16384.Idx → Elt F .f32 :=
  arg5.view.readAt (Elt F) (Rect.unit (s := S2x16384) ![0, 0] S1x16384.size inb_S2x16384_S1x16384_0_0).toLoadRect Q5
/-- The second row. -/
abbrev row1 : S1x16384.Idx → Elt F .f32 :=
  arg5.view.readAt (Elt F) (Rect.unit (s := S2x16384) ![1, 0] S1x16384.size inb_S2x16384_S1x16384_1_0).toLoadRect Q5

/-- What a turn does after the next batch's rows are under way, up to its store. -/
def rest (k0_hw2 : k0_chk2 v0) (v19 : BitVec 32) (t : Fin (k0_t2_loop v0).trips) :
    Prog (TpuEff nD τ sig (Elt F) Λ₀ .tc) (Σ' (arg15 : BitVec 32) (v71 : IVec S64 32) (v74 : IVec S64x16384 1) (v81 : FVec F S64 .f32) (cst_45 : F .f32), FVec F S64x16384 .f32) := do
  let _ : BitVec 32 ← Scf.Loop.for k0_t4_loop k0_t4_ok 0#32 (k0_t4_body i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 0#32 1#32 t)
  let x : Vec F S1x64x16384 .f32 ← Prog.lift (.load (Memref.whole cc0_scratch0) (Rect.unit (s := S2x64x16384) (k0_off13 v0 t) S1x64x16384.size (k0_off13_inb v0 k0_hw2 t)).toLoadRect (View.loadsAt_vmem h_S1x64x16384))
  let y : Vec F S1x64x16384 .f32 ← Prog.lift (.load (Memref.whole cc0_scratch1) (Rect.unit (s := S2x64x16384) (k0_off13 v0 t) S1x64x16384.size (k0_off13_inb v0 k0_hw2 t)).toLoadRect (View.loadsAt_vmem h_S1x64x16384))
  let a : Vec F S1x16384 .f32 ← Prog.lift (.load arg5 (Rect.unit (s := S2x16384) ![0, 0] S1x16384.size inb_S2x16384_S1x16384_0_0).toLoadRect (View.loadsAt_vmem h_S1x16384))
  let b : Vec F S1x16384 .f32 ← Prog.lift (.load arg5 (Rect.unit (s := S2x16384) ![1, 0] S1x16384.size inb_S2x16384_S1x16384_1_0).toLoadRect (View.loadsAt_vmem h_S1x16384))
  pure ⟨Scf.iv 0#32 1#32 t, k0_pay2 x y, k0_pay3 x y, k0_pay4 x y a, Scalar.ofBits .f32 0x00000000#32, k0_pay5 b⟩

/-- The first part of a turn: the next batch's issues, if there is one, then the rest. -/
theorem part1_eq (k0_hw2 : k0_chk2 v0) (v19 : BitVec 32) (t : Fin (k0_t2_loop v0).trips) :
    k0_part1 (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 0#32 1#32 t
      = if k0_h2 : k0_cond2 v0 t = 1#1 then
          (Scf.Loop.for k0_t3_loop k0_t3_ok 0#32 (k0_t3_body i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 0#32 1#32 t k0_h2) >>= fun _ =>
            rest i arg2 harg2 arg5 harg5 arg6 harg6 arg7 harg7 arg8 harg8 arg9 harg9 v0 k0_hw2 v19 t)
        else rest i arg2 harg2 arg5 harg5 arg6 harg6 arg7 harg7 arg8 harg8 arg9 harg9 v0 k0_hw2 v19 t := by
  rw [k0_part1_eq_skeleton]; rfl

/-- The rest of a turn awaits the batch and reduces it. -/
theorem rest_runs (hv : v0.toNat ≤ 512) (k0_hw2 : k0_chk2 v0) (v19 : BitVec 32) (t : Fin (k0_t2_loop v0).trips) :
    iprop(pending EC c X Y qL qG fL fG ρ t.val ∗ (arg5.view.loc (c : Thread nD τ) ↦{qQ} Q5) ∗ ∃ W, owes (c : Thread nD τ) 0 W)
      ⊢ wp frame (wpE defs₀ 𝒱 (c : Thread nD τ) bd) Set.univ (rest (F := F) i arg2 harg2 arg5 harg5 arg6 harg6 arg7 harg7 arg8 harg8 arg9 harg9 v0 k0_hw2 v19 t)
        (fun r => iprop(⌜r = ⟨Scf.iv 0#32 1#32 t, k0_pay2 (Rows.rowsOf tabL X (ρ t.val)) (Rows.rowsOf tabG Y (ρ t.val)), k0_pay3 (Rows.rowsOf tabL X (ρ t.val)) (Rows.rowsOf tabG Y (ρ t.val)),
            k0_pay4 (Rows.rowsOf tabL X (ρ t.val)) (Rows.rowsOf tabG Y (ρ t.val)) (row0 c arg5 Q5), Scalar.ofBits .f32 0x00000000#32, k0_pay5 (row1 c arg5 Q5)⟩⌝
          ∗ idle c X Y qL qG t.val ∗ (arg5.view.loc (c : Thread nD τ) ↦{qQ} Q5) ∗ ∃ W, owes (c : Thread nD τ) 0 W)) := by
  have ht4 : k0_t4_loop.trips = 64 := by decide
  unfold pending
  iintro ⟨⟨HL, HG⟩, HQ, HO⟩
  sl_unfold [rest]
  sl_for (fun j _ => awaitedAt EC c X Y (qL (half t.val)) (qG (half t.val)) fL fG (half t.val) (ρ t.val) j) $$ [HL HG HO]
  · intro j acc
    exact await_step EC 𝒱 bd c X Y (qL (half t.val)) (qG (half t.val)) fL fG i arg2 harg2 arg5 harg5 arg6 harg6 arg7 harg7 arg8 harg8 arg9 harg9 (Memref.whole cc0_scratch2) (Memref.isWhole_whole _) v0 hv k0_hw2 v19 0#32 1#32 t (half t.val) rfl (ρ t.val) j acc
  · unfold awaitedAt
    isplitl [HL]; · iexact HL
    isplitl [HG]; · iexact HG
    iexact HO
  iintro %acc HI
  ihave HI' := (show awaitedAt EC c X Y (qL (half t.val)) (qG (half t.val)) fL fG (half t.val) (ρ t.val) k0_t4_loop.trips
      ⊢ iprop(Rows.done c tabL bufL cc0_scratch3 X (qL (half t.val)) (half t.val) fL (ρ t.val) ∗ Rows.done c tabG bufG cc0_scratch4 Y (qG (half t.val)) (half t.val) fG (ρ t.val) ∗ ∃ W, owes (c : Thread nD τ) 0 W) from by
    rw [ht4]; unfold awaitedAt
    iintro ⟨HL, HG, HO⟩
    isplitl [HL]; · iapply (Rows.all_awaited EC c tabL bufL cc0_scratch3 X (qL (half t.val)) (half t.val) fL (ρ t.val) unit) $$ HL
    isplitl [HG]; · iapply (Rows.all_awaited EC c tabG bufG cc0_scratch4 Y (qG (half t.val)) (half t.val) fG (ρ t.val) unit) $$ HG
    iexact HO) $$ HI
  unfold Rows.done
  icases HI' with ⟨⟨HLb, HLs, HLt⟩, ⟨HGb, HGs, HGt⟩, HO⟩
  iapply (Rows.load_half c tabL bufL X (half t.val) fL (ρ t.val) 𝒱 bd (Words.off13_eq hv t)) $$ HLb
  iintro HLb
  iapply (Rows.load_half c tabG bufG Y (half t.val) fG (ρ t.val) 𝒱 bd (Words.off13_eq hv t)) $$ HGb
  iintro HGb
  simp only [Prog.bind]
  sl_exec
  sl_step
  isplitr; · ipureintro; rfl
  isplitl [HLb HLs HLt HGb HGs HGt]
  · unfold idle Rows.free
    isplitl [HLb HLs HLt]
    · isplitl [HLb]; · iexists _; iexact HLb
      isplitl [HLs] <;> iassumption
    · isplitl [HGb]; · iexists _; iexact HGb
      isplitl [HGs] <;> iassumption
  isplitl [HQ] <;> iassumption

/-- The issues of the next batch's rows. -/
theorem next_runs (hv : v0.toNat ≤ 512) (k0_hw2 : k0_chk2 v0) (v19 : BitVec 32) (t : Fin (k0_t2_loop v0).trips) (k0_h2 : k0_cond2 v0 t = 1#1)
    (hR : ∀ k : ℕ, ∀ j : Fin 64, ∀ y : S512.Idx, (y 0).val = 64 * k + j.val → (R y).toNat = (ρ k j).val) :
    iprop(listP c qR R ∗ idle c X Y qL qG (t.val + 1))
      ⊢ wp frame (wpE defs₀ 𝒱 (c : Thread nD τ) bd) Set.univ
        (Scf.Loop.for k0_t3_loop k0_t3_ok 0#32 (k0_t3_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 0#32 1#32 t k0_h2))
        (fun _ => iprop(listP c qR R ∗ pending EC c X Y qL qG fL fG ρ (t.val + 1))) := by
  have ht3 : Scf.trips k0_t3_loop.lb k0_t3_loop.ub k0_t3_loop.st = 64 := by decide
  unfold idle
  iintro ⟨HR, HL, HG⟩
  imod (Rows.start EC c tabL bufL cc0_scratch3 X (qL (half (t.val + 1))) (half (t.val + 1)) fL (ρ (t.val + 1)) unit) $$ HL with HL
  imod (Rows.start EC c tabG bufG cc0_scratch4 Y (qG (half (t.val + 1))) (half (t.val + 1)) fG (ρ (t.val + 1)) unit) $$ HG with HG
  sl_for (fun j _ => issuedAt EC c X Y (qL (half (t.val + 1))) (qG (half (t.val + 1))) qR fL fG R (half (t.val + 1)) (ρ (t.val + 1)) j) $$ [HR HL HG]
  · intro j acc
    exact next_step EC 𝒱 bd c X Y (qL (half (t.val + 1))) (qG (half (t.val + 1))) qR fL fG R i arg2 harg2 arg5 harg5 arg6 harg6 arg7 harg7 arg8 harg8 arg9 harg9 (Memref.whole cc0_scratch2) (Memref.isWhole_whole _) v0 hv k0_hw2 v19 0#32 1#32 t k0_h2 (half (t.val + 1)) rfl (ρ (t.val + 1)) (hR (t.val + 1)) j acc
  isplitl [HR HL HG]
  · unfold issuedAt
    isplitl [HR]; · iexact HR
    isplitl [HL]; · iexact HL
    iexact HG
  iintro %acc HI
  rw [ht3]
  unfold issuedAt pending
  icases HI with ⟨HR, HL, HG⟩
  isplitl [HR]; · iexact HR
  isplitl [HL]
  · iapply (Rows.all_issued EC c tabL bufL cc0_scratch3 X (qL (half (t.val + 1))) (half (t.val + 1)) fL (ρ (t.val + 1)) unit) $$ HL
  · iapply (Rows.all_issued EC c tabG bufG cc0_scratch4 Y (qG (half (t.val + 1))) (half (t.val + 1)) fG (ρ (t.val + 1)) unit) $$ HG

/-- The issues of the first batch's rows. -/
theorem first_runs (k0_h1 : k0_cond1 v0 = 1#1)
    (hR : ∀ k : ℕ, ∀ j : Fin 64, ∀ y : S512.Idx, (y 0).val = 64 * k + j.val → (R y).toNat = (ρ k j).val) :
    iprop(listP c qR R ∗ idle c X Y qL qG 0)
      ⊢ wp frame (wpE defs₀ 𝒱 (c : Thread nD τ) bd) Set.univ
        (Scf.Loop.for k0_t1_loop k0_t1_ok ⟨⟩ (k0_t1_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_h1))
        (fun _ => iprop(listP c qR R ∗ pending EC c X Y qL qG fL fG ρ 0)) := by
  have ht1 : Scf.trips k0_t1_loop.lb k0_t1_loop.ub k0_t1_loop.st = 64 := by decide
  unfold idle
  iintro ⟨HR, HL, HG⟩
  imod (Rows.start EC c tabL bufL cc0_scratch3 X (qL (half 0)) (half 0) fL (ρ 0) unit) $$ HL with HL
  imod (Rows.start EC c tabG bufG cc0_scratch4 Y (qG (half 0)) (half 0) fG (ρ 0) unit) $$ HG with HG
  sl_for (fun j _ => issuedAt EC c X Y (qL (half 0)) (qG (half 0)) qR fL fG R (half 0) (ρ 0) j) $$ [HR HL HG]
  · intro j acc
    exact first_step EC 𝒱 bd c X Y (qL (half 0)) (qG (half 0)) qR fL fG R i arg2 harg2 arg5 harg5 arg6 harg6 arg7 harg7 arg8 harg8 arg9 harg9 (Memref.whole cc0_scratch2) (Memref.isWhole_whole _) v0 k0_h1 (ρ 0) (fun j y hy => hR 0 j y (by omega)) j acc
  isplitl [HR HL HG]
  · unfold issuedAt
    isplitl [HR]; · iexact HR
    isplitl [HL]; · iexact HL
    iexact HG
  iintro %acc HI
  rw [ht1]
  unfold issuedAt pending
  icases HI with ⟨HR, HL, HG⟩
  isplitl [HR]; · iexact HR
  isplitl [HL]
  · iapply (Rows.all_issued EC c tabL bufL cc0_scratch3 X (qL (half 0)) (half 0) fL (ρ 0) unit) $$ HL
  · iapply (Rows.all_issued EC c tabG bufG cc0_scratch4 Y (qG (half 0)) (half 0) fG (ρ 0) unit) $$ HG

/-- Batch `k`'s rows on their way if there is a batch `k`, its half idle if not. -/
def ahead (k : ℕ) : sProp 𝕄 :=
  if k < Words.batches v0 then pending EC c X Y qL qG fL fG ρ k else idle c X Y qL qG k

/-- The results buffer held, at contents `f`. -/
abbrev resP (f : S512x3.Idx → Elt F .f32) : sProp 𝕄 :=
  (Memref.whole cc0_scratch2 : Memref sig .tc .vmem S512x3 .f32).view.loc (c : Thread nD τ) ↦{fullShare} f

/-- What is held before turn `k` of the main loop. -/
def mainAt (k : ℕ) : sProp 𝕄 :=
  iprop((∃ W, owes (c : Thread nD τ) 0 W) ∗ listP c qR R ∗ (arg5.view.loc (c : Thread nD τ) ↦{qQ} Q5)
    ∗ resP c (resAt X Y (row0 c arg5 Q5) (row1 c arg5 Q5) ρ k)
    ∗ ahead EC c X Y qL qG fL fG ρ v0 k ∗ idle c X Y qL qG (k + 1))

/-- The first part of a turn, run. -/
theorem part1_runs (hv : v0.toNat ≤ 512) (k0_hw2 : k0_chk2 v0) (v19 : BitVec 32) (t : Fin (k0_t2_loop v0).trips)
    (hR : ∀ k : ℕ, ∀ j : Fin 64, ∀ y : S512.Idx, (y 0).val = 64 * k + j.val → (R y).toNat = (ρ k j).val) :
    iprop(pending EC c X Y qL qG fL fG ρ t.val ∗ (arg5.view.loc (c : Thread nD τ) ↦{qQ} Q5) ∗ (∃ W, owes (c : Thread nD τ) 0 W) ∗ listP c qR R ∗ idle c X Y qL qG (t.val + 1))
      ⊢ wp frame (wpE defs₀ 𝒱 (c : Thread nD τ) bd) Set.univ (k0_part1 (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 0#32 1#32 t)
        (fun r => iprop((⌜r = ⟨Scf.iv 0#32 1#32 t, k0_pay2 (Rows.rowsOf tabL X (ρ t.val)) (Rows.rowsOf tabG Y (ρ t.val)), k0_pay3 (Rows.rowsOf tabL X (ρ t.val)) (Rows.rowsOf tabG Y (ρ t.val)),
            k0_pay4 (Rows.rowsOf tabL X (ρ t.val)) (Rows.rowsOf tabG Y (ρ t.val)) (row0 c arg5 Q5), Scalar.ofBits .f32 0x00000000#32, k0_pay5 (row1 c arg5 Q5)⟩⌝
          ∗ idle c X Y qL qG t.val ∗ (arg5.view.loc (c : Thread nD τ) ↦{qQ} Q5) ∗ ∃ W, owes (c : Thread nD τ) 0 W)
          ∗ listP c qR R ∗ ahead EC c X Y qL qG fL fG ρ v0 (t.val + 1))) := by
  rw [part1_eq]
  iintro ⟨HP, HQ, HO, HR, HI⟩
  by_cases hc : k0_cond2 v0 t = 1#1
  · rw [dif_pos hc]
    iapply (wp_head 𝒱 bd c (next_runs EC 𝒱 bd c X Y qL qG qR fL fG R ρ i arg2 harg2 arg5 harg5 arg6 harg6 arg7 harg7 arg8 harg8 arg9 harg9 v0 hv k0_hw2 v19 t hc hR)) $$ [HR HI]
    · isplitl [HR] <;> iassumption
    iintro %acc ⟨HR, HI⟩
    iapply (wp_wand _ _ _) $$ [HP HQ HO]
    · iapply (rest_runs EC 𝒱 bd c X Y qL qG qQ fL fG ρ i arg2 harg2 arg5 harg5 arg6 harg6 arg7 harg7 arg8 harg8 arg9 harg9 v0 Q5 hv k0_hw2 v19 t)
      isplitl [HP]; · iexact HP
      isplitl [HQ] <;> iassumption
    iintro %r H
    isplitl [H]; · iexact H
    isplitl [HR]; · iexact HR
    unfold ahead; rw [if_pos ((Words.next_iff hv t).1 hc)]; iexact HI
  · rw [dif_neg hc]
    iapply (wp_wand _ _ _) $$ [HP HQ HO]
    · iapply (rest_runs EC 𝒱 bd c X Y qL qG qQ fL fG ρ i arg2 harg2 arg5 harg5 arg6 harg6 arg7 harg7 arg8 harg8 arg9 harg9 v0 Q5 hv k0_hw2 v19 t)
      isplitl [HP]; · iexact HP
      isplitl [HQ] <;> iassumption
    iintro %r H
    isplitl [H]; · iexact H
    isplitl [HR]; · iexact HR
    unfold ahead; rw [if_neg (fun h => hc ((Words.next_iff hv t).2 h))]; iexact HI

set_option maxHeartbeats 1000000 in
/-- One turn of the main loop. -/
theorem main_step (hv : v0.toNat ≤ 512) (k0_hw2 : k0_chk2 v0) (v19 : BitVec 32)
    (hR : ∀ k : ℕ, ∀ j : Fin 64, ∀ y : S512.Idx, (y 0).val = 64 * k + j.val → (R y).toNat = (ρ k j).val)
    (t : Fin (k0_t2_loop v0).trips) (acc : BitVec 32) :
    mainAt EC c X Y qL qG qR qQ fL fG R ρ arg5 v0 Q5 t.val ⊢ wp frame (wpE defs₀ 𝒱 (c : Thread nD τ) bd) Set.univ
      (Gen.k0_t2_body (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 t acc) (fun _ => mainAt EC c X Y qL qG qR qQ fL fG R ρ arg5 v0 Q5 (t.val + 1)) := by
  have ht : t.val < Words.batches v0 := Words.trips_main hv ▸ t.isLt
  have hA : ahead EC c X Y qL qG fL fG ρ v0 t.val = pending EC c X Y qL qG fL fG ρ t.val := if_pos ht
  unfold mainAt
  rw [hA]
  iintro ⟨HO, HR, HQ, HS, HP, HI⟩
  dsimp only [Gen.k0_t2_body]
  iapply (wp_head 𝒱 bd c (part1_runs EC 𝒱 bd c X Y qL qG qR qQ fL fG R ρ i arg2 harg2 arg5 harg5 arg6 harg6 arg7 harg7 arg8 harg8 arg9 harg9 v0 Q5 hv k0_hw2 v19 t hR)) $$ [HO HR HQ HP HI]
  · isplitl [HP]; · iexact HP
    isplitl [HQ]; · iexact HQ
    isplitl [HO]; · iexact HO
    isplitl [HR] <;> iassumption
  iintro %r ⟨⟨%hr, HI, HQ, HO⟩, HR, HA⟩
  subst hr
  dsimp only
  sl_exec
  sl_step
  isplitl [HO]; · iexact HO
  isplitl [HR]; · iexact HR
  isplitl [HQ]; · iexact HQ
  isplitl [HS]
  · iapply (Entails.of_eq (congrArg (resP (F := F) (U := U) c) (store_listed X Y (row0 c arg5 Q5) (row1 c arg5 Q5) ρ t.val (k0_off14 v0 t) (k0_off14_inb v0 k0_hw2 t) (Words.off14_eq hv t) _ ?_))) $$ HS
    rfl
  isplitl [HA]; · iexact HA
  rw [idle_two]; iexact HI

/-- The batch count, as the body computes it. -/
def count (v0 : BitVec 32) : BitVec 32 :=
  let v2 : BitVec 32 := Scalar.subi (Scalar.addi v0 64#32) 1#32
  let v3 : BitVec 32 := Scalar.divsi v2 64#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 64#32 0#32)) (Scalar.extui (Scalar.cmpi .slt 64#32 0#32))
  Scalar.select (Scalar.andi (Scalar.cmpi .ne v8 v13) (Scalar.cmpi .ne (Scalar.remsi v2 64#32) 0#32)) (Scalar.subi v3 1#32) v3

/-- Where the main loop's second half starts, as the body computes it. -/
def whole (v0 : BitVec 32) : BitVec 32 :=
  Scalar.addi 0#32 (Scalar.muli (Scalar.divsi (Scalar.subi (count v0) 0#32) 1#32) 1#32)

/-- The two halves of the main loop, and what the body takes from them. -/
def sweep (k0_hw2 : k0_chk2 v0) (v19 v31 : BitVec 32) : Prog (TpuEff nD τ sig (Elt F) Λ₀ .tc) (IVec S4096x512 32) := do
  let a : BitVec 32 ← Scf.Loop.for (k0_t2_loop v0) (k0_t2_ok v0 k0_hw2) 0#32 (k0_t2_body i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19)
  let _ : BitVec 32 ← Scf.Loop.for (k0_t5_loop v0) (k0_t5_ok v0 k0_hw2) a (k0_t5_body i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_hw2 v19 v31)
  pure (iota .tc S4096x512 32 [1] iota_S4096x512_d1_w32)

/-- The main loop, run. -/
theorem sweep_runs (hv : v0.toNat ≤ 512) (k0_hw2 : k0_chk2 v0) (v19 v31 : BitVec 32)
    (hR : ∀ k : ℕ, ∀ j : Fin 64, ∀ y : S512.Idx, (y 0).val = 64 * k + j.val → (R y).toNat = (ρ k j).val) :
    mainAt EC c X Y qL qG qR qQ fL fG R ρ arg5 v0 Q5 0 ⊢ wp frame (wpE defs₀ 𝒱 (c : Thread nD τ) bd) Set.univ
      (sweep (F := F) i arg2 harg2 arg5 harg5 arg6 harg6 arg7 harg7 arg8 harg8 arg9 harg9 v0 k0_hw2 v19 v31)
      (fun r => iprop(⌜r = iota .tc S4096x512 32 [1] iota_S4096x512_d1_w32⌝ ∗ mainAt EC c X Y qL qG qR qQ fL fG R ρ arg5 v0 Q5 (Words.batches v0))) := by
  have h2 : Scf.trips (k0_t2_loop v0).lb (k0_t2_loop v0).ub (k0_t2_loop v0).st = Words.batches v0 := Words.trips_main hv
  have h5 : Scf.trips (k0_t5_loop v0).lb (k0_t5_loop v0).ub (k0_t5_loop v0).st = 0 := Words.trips_rest hv
  iintro H
  sl_unfold [sweep]
  sl_for (fun k _ => mainAt EC c X Y qL qG qR qQ fL fG R ρ arg5 v0 Q5 k) $$ [H]
  · intro k acc
    exact main_step EC 𝒱 bd c X Y qL qG qR qQ fL fG R ρ i arg2 harg2 arg5 harg5 arg6 harg6 arg7 harg7 arg8 harg8 arg9 harg9 v0 Q5 hv k0_hw2 v19 hR k acc
  · iexact H
  iintro %acc H
  sl_for (fun _ _ => mainAt EC c X Y qL qG qR qQ fL fG R ρ arg5 v0 Q5 (Words.batches v0)) $$ [H]
  · intro k acc
    exact absurd (lt_of_lt_of_eq k.isLt h5) (Nat.not_lt_zero _)
  · rw [h2]; iexact H
  iintro %acc H
  sl_step
  isplitr; · ipureintro; rfl
  iexact H

/-- The body's first part. -/
theorem part3_eq : k0_part3 (F := F) i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 = (do
    let v0 : Elt F .i32 ← smemLoad arg2 (Rect.unit (s := S1) ![0] S1.size inb_S1_S1_0) numel1_S1 rfl
    have k0_hw2 : k0_chk2 v0 := (← Prog.lift (TpuEff.assume (k0_chk2 v0) (k0_chk2.dec v0))).down
    let _ : Vec F S512x3 .f32 ← Prog.lift (.load (Memref.whole cc0_scratch2) (Rect.unit (s := S512x3) ![0, 0] S512x3.size inb_S512x3_S512x3_0_0).toLoadRect (View.loadsAt_vmem h_S512x3))
    Prog.lift (.store (Memref.whole cc0_scratch2) (Rect.unit (s := S512x3) ![0, 0] S512x3.size inb_S512x3_S512x3_0_0) (k0_pay10 (F := F)) Finset.univ (View.stores_vmem_bits_univ h_S512x3 rfl) (.inl rfl))
    if k0_h1 : k0_cond1 v0 = 1#1 then
      (Scf.Loop.for k0_t1_loop k0_t1_ok ⟨⟩ (k0_t1_body i (Memref.whole main_arg5) (Memref.isWhole_whole _) arg2 harg2 (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4 v0 k0_h1) >>= fun _ =>
        sweep i arg2 harg2 arg5 harg5 arg6 harg6 arg7 harg7 arg8 harg8 arg9 harg9 v0 k0_hw2 (count v0) (whole v0))
    else sweep i arg2 harg2 arg5 harg5 arg6 harg6 arg7 harg7 arg8 harg8 arg9 harg9 v0 k0_hw2 (count v0) (whole v0)) := by
  rw [k0_part3_eq_skeleton]; rfl

/-- The count of rows held. -/
abbrev countP (qN : PosShare TreeShare) (N : S1.Idx → BitVec 32) : sProp 𝕄 :=
  (Memref.whole main_arg6 : Memref sig .tc .smem S1 .i32).view.loc (c : Thread nD τ) ↦{qN} N

/-- The body's first part, run. -/
theorem part3_runs (qN : PosShare TreeShare) (N : S1.Idx → BitVec 32) (v : BitVec 32) (hN : ∀ x, N x = v) (hv : v.toNat ≤ 512)
    (hR : ∀ k : ℕ, ∀ j : Fin 64, ∀ y : S512.Idx, (y 0).val = 64 * k + j.val → (R y).toNat = (ρ k j).val) (f : S512x3.Idx → Elt F .f32) :
    iprop(countP c qN N ∗ (∃ W, owes (c : Thread nD τ) 0 W) ∗ listP c qR R ∗ (arg5.view.loc (c : Thread nD τ) ↦{qQ} Q5) ∗ resP c f
        ∗ idle c X Y qL qG 0 ∗ idle c X Y qL qG 1)
      ⊢ wp frame (wpE defs₀ 𝒱 (c : Thread nD τ) bd) Set.univ
        (k0_part3 (F := F) i (Memref.whole main_arg5) (Memref.isWhole_whole _) (Memref.whole main_arg6) (Memref.isWhole_whole _) (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4)
        (fun r => iprop((⌜r = iota .tc S4096x512 32 [1] iota_S4096x512_d1_w32⌝ ∗ mainAt EC c X Y qL qG qR qQ fL fG R ρ arg5 v Q5 (Words.batches v)) ∗ countP c qN N)) := by
  have hchk := Words.chk2_of_le hv
  have hres : (resP (F := F) (U := U) c ((Memref.whole cc0_scratch2 : Memref sig .tc .vmem S512x3 .f32).view.writes (Elt F) f [⟨Rect.unit (s := S512x3) ![0, 0] S512x3.size inb_S512x3_S512x3_0_0, k0_pay10 (F := F)⟩]))
      = resP c (resAt X Y (row0 c arg5 Q5) (row1 c arg5 Q5) ρ 0) := by
    exact congrArg (resP (F := F) (U := U) c) (store_zero X Y _ _ ρ f)
  rw [part3_eq]
  iintro ⟨HN, HO, HR, HQ, HS, H0, H1⟩
  sl_exec
  have hr : part3_runs.sl.r (F := F) N = v := hN _
  rw [hr]
  iapply wp_assume 𝒱 c bd Set.univ hchk
  sl_exec
  ihave HS := (Entails.of_eq hres) $$ HS
  beta_reduce
  by_cases hc : k0_cond1 v = 1#1
  · rw [dif_pos hc]
    iapply (wp_head 𝒱 bd c (first_runs EC 𝒱 bd c X Y qL qG qR fL fG R ρ i (Memref.whole main_arg6) (Memref.isWhole_whole _) arg5 harg5 arg6 harg6 arg7 harg7 arg8 harg8 arg9 harg9 v hc hR)) $$ [HR H0]
    · isplitl [HR] <;> iassumption
    iintro %acc ⟨HR, H0⟩
    iapply (wp_wand _ _ _) $$ [HO HR HQ HS H0 H1]
    · iapply (sweep_runs EC 𝒱 bd c X Y qL qG qR qQ fL fG R ρ i (Memref.whole main_arg6) (Memref.isWhole_whole _) arg5 harg5 arg6 harg6 arg7 harg7 arg8 harg8 arg9 harg9 v Q5 hv hchk _ _ hR)
      unfold mainAt ahead
      rw [if_pos ((Words.first_iff hv).1 hc)]
      isplitl [HO]; · iexact HO
      isplitl [HR]; · iexact HR
      isplitl [HQ]; · iexact HQ
      isplitl [HS]; · iexact HS
      isplitl [H0] <;> iassumption
    iintro %r H
    isplitl [H] <;> iassumption
  · rw [dif_neg hc]
    iapply (wp_wand _ _ _) $$ [HO HR HQ HS H0 H1]
    · iapply (sweep_runs EC 𝒱 bd c X Y qL qG qR qQ fL fG R ρ i (Memref.whole main_arg6) (Memref.isWhole_whole _) arg5 harg5 arg6 harg6 arg7 harg7 arg8 harg8 arg9 harg9 v Q5 hv hchk _ _ hR)
      unfold mainAt ahead
      rw [if_neg (fun h => hc ((Words.first_iff hv).2 h))]
      isplitl [HO]; · iexact HO
      isplitl [HR]; · iexact HR
      isplitl [HQ]; · iexact HQ
      isplitl [HS]; · iexact HS
      isplitl [H0] <;> iassumption
    iintro %r H
    isplitl [H] <;> iassumption

/-- After the last batch both halves are idle. -/
theorem mainAt_end (v : BitVec 32) : mainAt EC c X Y qL qG qR qQ fL fG R ρ arg5 v Q5 (Words.batches v)
    ⊢ iprop((∃ W, owes (c : Thread nD τ) 0 W) ∗ listP c qR R ∗ (arg5.view.loc (c : Thread nD τ) ↦{qQ} Q5)
    ∗ resP c (resAt X Y (row0 c arg5 Q5) (row1 c arg5 Q5) ρ (Words.batches v)) ∗ idle c X Y qL qG 0 ∗ idle c X Y qL qG 1) := by
  generalize hn : Words.batches v = n
  have hi : half n = 0 ∧ half (n + 1) = 1 ∨ half n = 1 ∧ half (n + 1) = 0 := by
    have h : n % 2 = 0 ∨ n % 2 = 1 := by omega
    rcases h with h | h
    · exact .inl ⟨Fin.ext h, Fin.ext (by show (n + 1) % 2 = 1; omega)⟩
    · exact .inr ⟨Fin.ext h, Fin.ext (by show (n + 1) % 2 = 0; omega)⟩
  unfold mainAt ahead
  rw [hn, if_neg (Nat.lt_irrefl n)]
  iintro ⟨HO, HR, HQ, HS, HA, HB⟩
  isplitl [HO]; · iexact HO
  isplitl [HR]; · iexact HR
  isplitl [HQ]; · iexact HQ
  isplitl [HS]; · iexact HS
  have h0 : half 0 = 0 := rfl
  have h1 : half 1 = 1 := rfl
  unfold idle
  rw [h0, h1]
  rcases hi with ⟨ha, hb⟩ | ⟨ha, hb⟩
  · rw [ha, hb]
    isplitl [HA] <;> iassumption
  · rw [ha, hb]
    isplitl [HB] <;> iassumption

/-- The first coordinates of QAM_mat. -/
abbrev rRow0 : Rect S2x16384 := Rect.unit (s := S2x16384) ![0, 0] S1x16384.size inb_S2x16384_S1x16384_0_0
/-- The second coordinates of QAM_mat. -/
abbrev rRow1 : Rect S2x16384 := Rect.unit (s := S2x16384) ![1, 0] S1x16384.size inb_S2x16384_S1x16384_1_0
/-- The whole of the output. -/
abbrev rOut : Rect S4096x3 := Rect.unit (s := S4096x3) ![0, 0] S4096x3.size inb_S4096x3_S4096x3_0_0
/-- The whole of a column over the output's rows. -/
abbrev rCol : Rect S4096x1 := Rect.unit (s := S4096x1) ![0, 0] S4096x1.size inb_S4096x1_S4096x1_0_0
/-- The whole of the results. -/
abbrev rRes : Rect S512x3 := Rect.unit (s := S512x3) ![0, 0] S512x3.size inb_S512x3_S512x3_0_0

/-- What the body leaves in the result's buffer. -/
def outOf (n : ℕ) (x0 : S2x16384.Idx → Elt F .f32) (x1 : S4096x3.Idx → Elt F .f32) (x2 x3 : S4096x1.Idx → Elt F .i32) : S4096x3.Idx → Elt F .f32 :=
  View.canon [⟨rOut, k0_pay1 (iota .tc S4096x512 32 [1] iota_S4096x512_d1_w32) (View.ld x3 rCol)
    (View.ld (resAt X Y (View.ld x0 rRow0) (View.ld x0 rRow1) ρ n) rRes) (View.ld x2 rCol) (View.ld x1 rOut)⟩]

/-- The store covers the result. -/
theorem cover_out (w : S4096x3.Idx → Elt F .f32) (y : S4096x3.Idx) : ∃ pc ∈ ([⟨rOut, w⟩] : List (View.Piece (Elt F) S4096x3 .f32)), y ∈ pc.1.set :=
  View.cover_of_tiled [⟨rOut, w⟩] S4096x3.size (by rfl) y

/-- What the body needs besides the blocks. -/
def own0 (qN : PosShare TreeShare) (N : S1.Idx → BitVec 32) : sProp 𝕄 :=
  iprop(countP c qN N ∗ listP c qR R ∗ (∃ f, resP c f) ∗ idle c X Y qL qG 0 ∗ idle c X Y qL qG 1)

include EC fL fG in
set_option maxHeartbeats 1000000 in
set_option maxRecDepth 16384 in
/-- The body, run. -/
theorem body_runs (qN : PosShare TreeShare) (N : S1.Idx → BitVec 32) (v : BitVec 32) (hN : ∀ x, N x = v) (hv : v.toNat ≤ 512)
    (hR : ∀ k : ℕ, ∀ j : Fin 64, ∀ y : S512.Idx, (y 0).val = 64 * k + j.val → (R y).toNat = (ρ k j).val)
    (x0 : S2x16384.Idx → Elt F .f32) (x1 : S4096x3.Idx → Elt F .f32) (x2 x3 : S4096x1.Idx → Elt F .i32) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d)
        ∗ (∃ W, owes (c : Thread nD τ) 0 W) ∗ own0 c X Y qL qG qR R qN N
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (outOf X Y ρ (Words.batches v) x0 x1 x2 x3)
          ∗ (∃ W, owes (c : Thread nD τ) 0 W) ∗ own0 c X Y qL qG qR R qN N) -∗ K ⟨⟩))
      ⊢ wp frame (wpE defs₀ 𝒱 (c : Thread nD τ) bd) Set.univ
        (cc0__fallback (F := F) i (Memref.whole main_arg5) (Memref.isWhole_whole _) (Memref.whole main_arg6) (Memref.isWhole_whole _) (Memref.whole main_v2) (Memref.isWhole_whole _) (Memref.whole main_v0) (Memref.isWhole_whole _) arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) cc0_scratch3 cc0_scratch4) K := by
  simp only [cc0__fallback_eq_skeleton]; unfold cc0__fallback_skel own0 owns
  iintro ⟨⟨%f0, %hf0, H0⟩, ⟨%f1, %hf1, H1⟩, ⟨%f2, %hf2, H2⟩, ⟨%f3, %hf3, H3⟩, ⟨%d4, %f4, -, H4⟩, HO, ⟨HN, HR, ⟨%fr, HS⟩, HA, HB⟩, Hk⟩
  subst hf0 hf1 hf2 hf3
  have h5 : (arg5.view.loc (c : Thread nD τ) ↦[arg5.view.set]{fullShare} f0 : sProp 𝕄) = (arg5.view.loc (c : Thread nD τ) ↦{fullShare} f0) := by
    rw [harg5.set_eq_univ]
  iapply (wp_head 𝒱 bd c (part3_runs EC 𝒱 bd c X Y qL qG qR fullShare fL fG R ρ i arg5 harg5 arg6 harg6 arg7 harg7 arg8 harg8 arg9 harg9 f0 qN N v hN hv hR fr)) $$ [HN HO HR H0 HS HA HB]
  · isplitl [HN]; · iexact HN
    isplitl [HO]; · iexact HO
    isplitl [HR]; · iexact HR
    isplitl [H0]; · iapply (Entails.of_eq h5) $$ H0
    isplitl [HS]; · iexact HS
    isplitl [HA] <;> iassumption
  iintro %r ⟨⟨%hr, HM⟩, HN⟩
  subst hr
  ihave HM := (mainAt_end EC c X Y qL qG qR fullShare fL fG R ρ arg5 f0 v) $$ HM
  icases HM with ⟨HO, HR, H0, HS, HA, HB⟩
  sl_exec
  sl_step
  iapply Hk
  isplitl [H0]
  · iexists f0; isplitr; · ipureintro; rfl
    iapply (Entails.of_eq h5.symm) $$ H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  isplitl [HO]; · iexact HO
  isplitl [HN]; · iexact HN
  isplitl [HR]; · iexact HR
  isplitl [HS]; · iexists _; iexact HS
  isplitl [HA] <;> iassumption

end Loop
end Cert.Proof.Sweep
-- ==== Proof.Launch.lean ====
module

public import proofs.«01_k».proof.Proof.Sweep
public import Idealize.ShloMosaic.Lib.Pipeline.FrameBody
public import Idealize.ShloMosaic.Lib.Claim
public import Idealize.ShloMosaic.Lib.Ring
public import Idealize.ShloMosaic.Lib.Tactic
public import proofs.«01_k».proof.Proof.Gen.Kernel2Ideal.Launch

@[expose] public section

/-!
The second call's launch: what the call holds at its start, split into what its body needs, and the run.
-/

set_option maxRecDepth 16384

noncomputable section

namespace Cert.Proof.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.Kernel2Ideal Cert.Kernel2Ideal.Gen Cert.Proof.Fetch Cert.Proof.Sweep

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- A core's buffers when the call starts. -/
abbrev V (c : Dev nD) (b : Ref sig .tc) : Buf (Elt F) ((c : Thread nD τ).loc b) := StableHlo.after hostOps0 (fun b => m (c, b)) b

/-- The host code writes each of its arrays once. -/
theorem hostOps0_fresh : (hostOps0 : List (HloOp τ sig (Elt F))).Forall fun op => op.fresh = ∅ := by
  simp only [List.Forall]; repeat' constructor

/-- The host lines before the call, run. -/
theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host line writes an argument. -/
theorem V_arg (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-- The prefetched arrays' contents. -/
def tbl : pre0.Contents (Elt F) := fun j => V m (0 : Dev nD) (pre0.ref j)
/-- The prefetched tables are the list and the count. -/
theorem V_pre (c : Dev nD) (j : Fin 2) : V m c (pre0.ref j) = tbl m j := by
  obtain rfl : c = 0 := Subsingleton.elim _ _; rfl
/-- The prefetched tables, as the launch takes them. -/
abbrev adm : (pcfg0 (F := F)).Adm := ⟨tbl m, trivial⟩
/-- The launch at these tables. -/
abbrev cfgM : Pipeline.Cfg sig Λ₀ := cfg0 (adm m)

/-- The four semaphores of the body's own. -/
def osem : Fin 4 → SemLoc sig := fun
  | 0 => .dma (Rows.cell cc0_scratch3 0) | 1 => .dma (Rows.cell cc0_scratch3 1)
  | 2 => .dma (Rows.cell cc0_scratch4 0) | 3 => .dma (Rows.cell cc0_scratch4 1)
/-- The copies' semaphores are the kernel's own. -/
theorem osem_facts : Pipeline.OwnSemFacts spec0 osem := by decide

/-- The two tables the body reads by its own transfers. -/
abbrev tabs : Finset (Ref sig .tc) := {main_v0, main_v2}
/-- The two tables of rows are no windows of the launch. -/
theorem tabs_sub : tabs ⊆ Pipeline.restRefsP sig pre0 spec0 := by
  intro b hb
  simp only [tabs, Finset.mem_insert, Finset.mem_singleton] at hb
  rcases hb with rfl | rfl <;> decide

/-- The two halves of a share. -/
def part : Fin 2 → PosShare TreeShare := fun | 0 => fullShare.left | 1 => fullShare.right

/-- A buffer of two halves, held, is its halves held. -/
theorem split_buf (c : Dev nD) (B : Memref sig .tc .vmem S2x64x16384 .f32) (hB : B.IsWhole) :
    iprop(∃ f : Buf (Elt F) (B.view.loc (c : Thread nD τ)), B.view.loc (c : Thread nD τ) ↦{fullShare} f)
      ⊢ (iprop((∃ f, Rows.halfP (Val := Elt F) (U := UD sig nD τ) c B 0 f) ∗ (∃ f, Rows.halfP (Val := Elt F) (U := UD sig nD τ) c B 1 f)) : sProp 𝕄) := by
  have hc : Finset.univ.biUnion (Rows.halfSet B) = Finset.univ := (Rows.halves_cover B).trans hB.set_eq_univ
  have hb (f : Buf (Elt F) (B.view.loc (c : Thread nD τ))) : (B.view.loc (c : Thread nD τ) ↦{fullShare} f : sProp 𝕄)
      = iprop(Rows.halfP (Val := Elt F) (U := UD sig nD τ) c B 0 f ∗ Rows.halfP (Val := Elt F) (U := UD sig nD τ) c B 1 f) :=
    (Ring.pointsTo_blocks (ℓ := B.view.loc (c : Thread nD τ)) (q := fullShare) (Rows.halfSet B) (Rows.halves_disjoint B) hc f).trans
      (bigSep_univ_eq_bigSepL [(0 : Fin 2), (1 : Fin 2)] (by decide) (by decide) _)
  iintro ⟨%f, H⟩
  ihave H := (Entails.of_eq (hb f)) $$ H
  icases H with ⟨H0, H1⟩
  isplitl [H0]
  · iexists f; iexact H0
  · iexists f; iexact H1

/-- And back. -/
theorem join_buf (c : Dev nD) (B : Memref sig .tc .vmem S2x64x16384 .f32) (hB : B.IsWhole) :
    iprop((∃ f, Rows.halfP (Val := Elt F) (U := UD sig nD τ) c B 0 f) ∗ (∃ f, Rows.halfP (Val := Elt F) (U := UD sig nD τ) c B 1 f))
      ⊢ (iprop(∃ f : Buf (Elt F) (B.view.loc (c : Thread nD τ)), B.view.loc (c : Thread nD τ) ↦{fullShare} f) : sProp 𝕄) := by
  have hc : Finset.univ.biUnion (Rows.halfSet B) = Finset.univ := (Rows.halves_cover B).trans hB.set_eq_univ
  have hj := Ring.pointsTo_blocks_join_exists (Ix := Unit) (Name := ℕ) (U := UD sig nD τ) (Lvl := ℕ) (ℓ := B.view.loc (c : Thread nD τ)) (q := fullShare) (Rows.halfSet B) (Rows.halves_disjoint B) hc (fun _ => (Classical.arbitrary (Elt F _)))
  rw [bigSep_univ_eq_bigSepL [(0 : Fin 2), (1 : Fin 2)] (by decide) (by decide)] at hj
  exact hj

/-- A table held is its two half shares held. -/
theorem split_tab (c : Dev nD) (A : Memref sig .tc .hbm S4096x1x16384 .f32) (hA : A.IsWhole) (X : Buf (Elt F) (A.view.loc (c : Thread nD τ))) :
    (A.view.loc (c : Thread nD τ) ↦{fullShare} X : sProp 𝕄)
      ⊢ iprop(Rows.tabP (Val := Elt F) (U := UD sig nD τ) c A X (part 0) ∗ Rows.tabP (Val := Elt F) (U := UD sig nD τ) c A X (part 1)) := by
  unfold Rows.tabP
  rw [hA.set_eq_univ]
  exact (pointsTo_share (PosShare.mem_left_op_right fullShare)).1
/-- And back. -/
theorem join_tab (c : Dev nD) (A : Memref sig .tc .hbm S4096x1x16384 .f32) (hA : A.IsWhole) (X : Buf (Elt F) (A.view.loc (c : Thread nD τ))) :
    iprop(Rows.tabP (Val := Elt F) (U := UD sig nD τ) c A X (part 0) ∗ Rows.tabP (Val := Elt F) (U := UD sig nD τ) c A X (part 1))
      ⊢ (A.view.loc (c : Thread nD τ) ↦{fullShare} X : sProp 𝕄) := by
  unfold Rows.tabP
  rw [hA.set_eq_univ]
  exact (pointsTo_share (PosShare.mem_left_op_right fullShare)).2

/-- The two tables, the list of rows and their count, as the call finds them. -/
abbrev logitsOf (c : Dev nD) : S4096x1x16384.Idx → Elt F .f32 := V m c main_v2
/-- The noise, as the kernel reads it. -/
abbrev noiseOf (c : Dev nD) : S4096x1x16384.Idx → Elt F .f32 := V m c main_v0
/-- The list of rows. -/
abbrev rowsOf (c : Dev nD) : S512.Idx → BitVec 32 := V m c main_arg5
/-- The number of rows, as an array. -/
abbrev countOf (c : Dev nD) : S1.Idx → BitVec 32 := V m c main_arg6

/-- What the body needs besides the blocks, and the generator register. -/
def inv (c : Dev nD) : sProp 𝕄 :=
  iprop((∃ r, prngReg c r) ∗ own0 c (logitsOf m c) (noiseOf m c) part part fullShare.right (rowsOf m c) fullShare.right (countOf m c))

/-- What the call holds, conjunct by conjunct. -/
theorem held_eq (c : Dev nD) : Pipeline.ΦD osem spec0 tabs (V m) c
    = (iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ (∃ r, prngReg c r)
      ∗ (semVal ((c : Thread nD τ), SemLoc.dma (Rows.cell cc0_scratch3 0)) 0 ∗ semVal ((c : Thread nD τ), SemLoc.dma (Rows.cell cc0_scratch3 1)) 0
        ∗ semVal ((c : Thread nD τ), SemLoc.dma (Rows.cell cc0_scratch4 0)) 0 ∗ semVal ((c : Thread nD τ), SemLoc.dma (Rows.cell cc0_scratch4 1)) 0)
      ∗ (((c : Thread nD τ).loc main_v0) ↦{fullShare} V m c main_v0) ∗ (((c : Thread nD τ).loc main_v2) ↦{fullShare} V m c main_v2)) : sProp 𝕄) := by
  rw [Pipeline.ΦD_eq, scopedRest0_eq, Pipeline.ownSems0_eq_of_list c osem [0, 1, 2, 3] (by decide) (by decide),
    show tabs = insert main_v0 {main_v2} from rfl, bigSep_insert (by decide), bigSep_singleton]
  rfl

/-- The tables the call reads before it starts, held. -/
theorem given_eq (c : Dev nD) : Pipeline.ΦT pre0 (tbl m) c
    = (iprop(listP c fullShare.right (rowsOf m c) ∗ countP c fullShare.right (countOf m c)) : sProp 𝕄) := by
  obtain rfl : c = 0 := Subsingleton.elim _ _
  exact bigSep_univ_eq_bigSepL [(0 : Fin 2), (1 : Fin 2)] (by decide) (by decide) _

/-- What the call holds is what the body needs. -/
theorem enter (c : Dev nD) : iprop(Pipeline.ΦD osem spec0 tabs (V m) c ∗ Pipeline.ΦT pre0 (tbl m) c) ⊢ inv m c := by
  rw [held_eq, given_eq]
  unfold inv own0 idle Rows.free
  iintro ⟨⟨⟨HB0, HB1, HS⟩, HP, ⟨Ha, Hb, Hc, Hd⟩, HG, HL⟩, HR, HN⟩
  ihave HB0 := (split_buf c bufL (Memref.isWhole_whole _)) $$ HB0
  ihave HB1 := (split_buf c bufG (Memref.isWhole_whole _)) $$ HB1
  ihave HL := (split_tab c tabL (Memref.isWhole_whole _) (logitsOf m c)) $$ HL
  ihave HG := (split_tab c tabG (Memref.isWhole_whole _) (noiseOf m c)) $$ HG
  icases HB0 with ⟨HB00, HB01⟩
  icases HB1 with ⟨HB10, HB11⟩
  icases HL with ⟨HL0, HL1⟩
  icases HG with ⟨HG0, HG1⟩
  isplitl [HP]; · iexact HP
  isplitl [HN]; · iexact HN
  isplitl [HR]; · iexact HR
  isplitl [HS]; · iexact HS
  isplitl [HB00 Ha HL0 HB10 Hc HG0]
  · isplitl [HB00 Ha HL0]
    · isplitl [HB00]; · iexact HB00
      isplitl [Ha]; · iexact Ha
      iexact HL0
    · isplitl [HB10]; · iexact HB10
      isplitl [Hc]; · iexact Hc
      iexact HG0
  · isplitl [HB01 Hb HL1]
    · isplitl [HB01]; · iexact HB01
      isplitl [Hb]; · iexact Hb
      iexact HL1
    · isplitl [HB11]; · iexact HB11
      isplitl [Hd]; · iexact Hd
      iexact HG1

/-- And at the end the call gets it back. -/
theorem leave (c : Dev nD) : inv m c ⊢ Pipeline.ΦD osem spec0 tabs (V m) c := by
  rw [held_eq]
  unfold inv own0 idle Rows.free
  iintro ⟨HP, -, -, HS, ⟨⟨HB00, Ha, HL0⟩, HB10, Hc, HG0⟩, ⟨HB01, Hb, HL1⟩, HB11, Hd, HG1⟩
  isplitl [HB00 HB01 HB10 HB11 HS]
  · isplitl [HB00 HB01]
    · iapply (join_buf c bufL (Memref.isWhole_whole _))
      isplitl [HB00]; · iexact HB00
      iexact HB01
    isplitl [HB10 HB11]
    · iapply (join_buf c bufG (Memref.isWhole_whole _))
      isplitl [HB10]; · iexact HB10
      iexact HB11
    iexact HS
  isplitl [HP]; · iexact HP
  isplitl [Ha Hb Hc Hd]
  · isplitl [Ha]; · iexact Ha
    isplitl [Hb]; · iexact Hb
    isplitl [Hc]; · iexact Hc
    iexact Hd
  isplitl [HG0 HG1]
  · iapply (join_tab c tabG (Memref.isWhole_whole _) (noiseOf m c))
    isplitl [HG0]; · iexact HG0
    iexact HG1
  · iapply (join_tab c tabL (Memref.isWhole_whole _) (logitsOf m c))
    isplitl [HL0]; · iexact HL0
    iexact HL1

/-- Place `k` of the list. -/
def place (k : ℕ) : S512.Idx := fun a => match a with | 0 => ⟨k % 512, Nat.mod_lt _ (by decide)⟩

/-- The row that place `64 k + j` of the list names. -/
def rowAt (c : Dev nD) (k : ℕ) (j : Fin 64) : Fin 4096 :=
  ⟨(rowsOf m c (place (64 * k + j.val))).toNat % 4096, Nat.mod_lt _ (by decide)⟩

/-- How many rows are listed. -/
def only : S1.Idx := fun a => match a with | 0 => ⟨0, by decide⟩
/-- The number of rows, as a word. -/
abbrev listed (c : Dev nD) : BitVec 32 := countOf m c only

/-- The count has one entry. -/
theorem count_const (c : Dev nD) (x : S1.Idx) : countOf m c x = listed m c :=
  congrArg _ (funext fun a => match a with | 0 => Fin.ext (Nat.lt_one_iff.mp (x 0).isLt))

/-- A listed row within the table is the row named. -/
theorem row_named (c : Dev nD) (hr : ∀ y, (rowsOf m c y).toNat < 4096) (k : ℕ) (j : Fin 64) (y : S512.Idx) (h : (y 0).val = 64 * k + j.val) :
    (rowsOf m c y).toNat = (rowAt m c k j).val := by
  have hy : y = place (64 * k + j.val) := by
    funext a
    match a with
    | 0 => exact Fin.ext (by show (y 0).val = (64 * k + j.val) % 512; rw [← h]; exact (Nat.mod_eq_of_lt (y 0).isLt).symm)
  show _ = (rowsOf m c (place (64 * k + j.val))).toNat % 4096
  rw [← hy]
  exact (Nat.mod_eq_of_lt (hr y)).symm

/-- A window's block, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output's block. -/
def made (c : Dev nD) (t : Fin (cfgM m).N) : S4096x3.Idx → Elt F .f32 :=
  outOf (logitsOf m c) (noiseOf m c) (rowAt m c) (Words.batches (listed m c)) (iblk m c 0 t) (iblk m c 1 t) (iblk m c 2 t) (iblk m c 3 t)

/-- What the body leaves in the five blocks: the four that it reads as they were, the fifth its output. -/
def dats (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => made m c t
  Φ _ := inv m c
  q _ := fullShare
  owed _ := 0

/-- The windows' arrays are those of the host code. -/
theorem dats_A (c : Dev nD) (w : Fin (cfgM m).W) : (dats m 0 c).A w = V m c (Pipeline.arrRef spec0 w) := by
  dsimp only [dats]
/-- What each window holds after a step: QAM_mat is read only. -/
theorem after_0 (c : Dev nD) (t : Fin (cfgM m).N) : (dats m 0 c).after 0 t = iblk m c 0 t := by dsimp only [dats]; rfl
/-- The previous rows are read only. -/
theorem after_1 (c : Dev nD) (t : Fin (cfgM m).N) : (dats m 0 c).after 1 t = iblk m c 1 t := by dsimp only [dats]; rfl
/-- The flags are read only. -/
theorem after_2 (c : Dev nD) (t : Fin (cfgM m).N) : (dats m 0 c).after 2 t = iblk m c 2 t := by dsimp only [dats]; rfl
/-- The slots are read only. -/
theorem after_3 (c : Dev nD) (t : Fin (cfgM m).N) : (dats m 0 c).after 3 t = iblk m c 3 t := by dsimp only [dats]; rfl
/-- The output holds what the step made. -/
theorem after_4 (c : Dev nD) (t : Fin (cfgM m).N) : (dats m 0 c).after 4 t = made m c t := by dsimp only [dats]; rfl

/-- Before the body a block that is read holds its part of its array. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
/-- What each window holds before a step: the previous rows. -/
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
/-- Before a step, the flags. -/
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
/-- Before a step, the slots. -/
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)

/-- The staging buffers at a point. -/
abbrev st_0 (t : Fin (cfgM m).N) := ((cfgM m).win 0).stage ((cfgM m).slots t 0)
/-- The buffer of the previous rows. -/
abbrev st_1 (t : Fin (cfgM m).N) := ((cfgM m).win 1).stage ((cfgM m).slots t 1)
/-- The buffer of the flags. -/
abbrev st_2 (t : Fin (cfgM m).N) := ((cfgM m).win 2).stage ((cfgM m).slots t 2)
/-- The buffer of the slots. -/
abbrev st_3 (t : Fin (cfgM m).N) := ((cfgM m).win 3).stage ((cfgM m).slots t 3)
/-- The buffer of the output. -/
abbrev st_4 (t : Fin (cfgM m).N) := ((cfgM m).win 4).stage ((cfgM m).slots t 4)

/-- The body at a point. -/
def bodyAt (t : Fin (cfgM m).N) :=
  cc0__fallback (F := F) (grid0.coords t) (Memref.whole main_arg5) (Memref.isWhole_whole _) (Memref.whole main_arg6) (Memref.isWhole_whole _) (Memref.whole main_v2) (Memref.isWhole_whole _) (Memref.whole main_v0) (Memref.isWhole_whole _)
    (st_0 m t) (hstage0_0 (((cfgM m).slots t 0).cast nbuf0_0)) (st_1 m t) (hstage0_1 (((cfgM m).slots t 1).cast nbuf0_1)) (st_2 m t) (hstage0_2 (((cfgM m).slots t 2).cast nbuf0_2)) (st_3 m t) (hstage0_3 (((cfgM m).slots t 3).cast nbuf0_3)) (st_4 m t) (hstage0_4 (((cfgM m).slots t 4).cast nbuf0_4))
    (Memref.whole cc0_scratch0) (Memref.isWhole_whole _) (Memref.whole cc0_scratch1) (Memref.isWhole_whole _) (Memref.whole cc0_scratch2) (Memref.isWhole_whole _) cc0_scratch3 cc0_scratch4

/-- What the body is called with at a point. -/
def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d)))

/-- What the body returns. -/
def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t))

/-- What a core owes, at some record. -/
theorem owes_some (c : Dev nD) (t) : (dats m 0 c).owesAt () t ⊢ (iprop(∃ W, owes (c : Thread nD τ) 0 W) : sProp 𝕄) := by
  unfold Dat.owesAt Pipeline.owesWithin
  iintro ⟨%W, -, H⟩
  iexists W; iexact H
/-- A thread that owes nothing has some record of it. -/
theorem some_owes (c : Dev nD) (t) : (iprop(∃ W, owes (c : Thread nD τ) 0 W) : sProp 𝕄) ⊢ (dats m 0 c).owesAt () t := by
  unfold Dat.owesAt Pipeline.owesWithin Dat.bound
  iintro ⟨%W, H⟩
  iexists W
  isplitr; · ipureintro; exact fun _ _ => Or.inl trivial
  iexact H

section Bounds

variable (hn : ∀ c, (listed m c).toNat ≤ 512) (hr : ∀ c y, (rowsOf m c y).toNat < 4096)

include hn hr

/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3]
  rw [show (dats m 0 c).Φ t.succ = inv m c from rfl, show (dats m 0 c).Φ t.castSucc = inv m c from rfl,
    after_0, after_1, after_2, after_3, after_4]
  unfold inv
  have hany : ∀ e, Nonempty (Elt F e) := inferInstance
  refine BIBase.Entails.trans ?_ (body_runs (countersEmb (U := UD sig nD τ)) Variants.none none c (logitsOf m c) (noiseOf m c) part part fullShare.right (fun _ => (hany .f32).some) (fun _ => (hany .f32).some) (rowsOf m c) (rowAt m c) (grid0.coords t) (st_0 m t) (hstage0_0 (((cfgM m).slots t 0).cast nbuf0_0)) (st_1 m t) (hstage0_1 (((cfgM m).slots t 1).cast nbuf0_1)) (st_2 m t) (hstage0_2 (((cfgM m).slots t 2).cast nbuf0_2)) (st_3 m t) (hstage0_3 (((cfgM m).slots t 3).cast nbuf0_3)) (st_4 m t) (hstage0_4 (((cfgM m).slots t 4).cast nbuf0_4)) fullShare.right (countOf m c) (listed m c) (count_const m c) (hn c) (fun k j y h => row_named m c (hr c) k j y h) (iblk m c 0 t) (iblk m c 1 t) (iblk m c 2 t) (iblk m c 3 t) _)
  iintro ⟨⟨HP, HI⟩, Ho, ⟨%d0, H0⟩, ⟨%d1, H1⟩, ⟨%d2, H2⟩, ⟨%d3, H3⟩, ⟨%d4, H4⟩⟩
  ihave Ho := (owes_some m c _) $$ Ho
  isplitl [H0]; · iexact H0
  isplitl [H1]; · iexact H1
  isplitl [H2]; · iexact H2
  isplitl [H3]; · iexact H3
  isplitl [H4]; · iexists _; iexact H4
  isplitl [Ho]; · iexact Ho
  isplitl [HI]; · iexact HI
  iintro ⟨H0, H1, H2, H3, H4, Ho, HI⟩
  isplitl [HP HI]
  · isplitl [HP]; · iexact HP
    iexact HI
  isplitl [Ho]; · iapply (some_owes m c _) $$ Ho
  isplitl [H0]; · iexact H0
  isplitl [H1]; · iexact H1
  isplitl [H2]; · iexact H2
  isplitl [H3]; · iexact H3
  iexact H4

omit hn hr in
/-- The body at a point is the one in the table of bodies. -/
theorem defs₀_row (t : Fin (cfgM m).N) :
    defs₀ (F := F) .tc (cfgM m).body ((cfgM m).bodyArgs t ((cfgM m).slots t)) = bodyAt m t := by
  unfold defs₀; rw [Defs.onTc_tc]; rfl

/-- The body does at every point what is asked of it. -/
theorem body_obligation (c : Dev nD) : BodyObligation (dats (F := F) m 0 c) (defs₀ (F := F)) Variants.none () Set.univ := fun t => by
  rw [bigSep_W0, bigSep_W0, defs₀_row]
  exact triple_restated (sound_body m hn hr c t) rfl .rfl fun _ => .rfl

set_option backward.isDefEq.respectTransparency.types false in
set_option maxHeartbeats 800000 in
/-- The call, run: it ends with the arrays as computed and every counter at zero. -/
theorem run : θ_run defs (onTc (τ := τ) (main (F := F))) (s₀ m ρ) (fun r => (Pipeline.FramePost (Pipeline.pin pcfgs (fun _ => adm m)) (dats m) 0 (V m)) r ∧ r.2.sem = fun _ => 0) :=
  Pipeline.θ_run_frameP_dma (Q' := _) pcfgs (fun _ => adm m) (dats m) (0 : Fin 1) launch0 osem defs₀ Variants.none osem_facts tabs tabs_sub m ρ main
    (hbody := fun c => (body_obligation m hn hr c).loose) (hshare := fun c => (dats m 0 c).share_full fun _ => rfl)
    (howed := fun _ _ => rfl) (V := V m) (hmain := hmain m Variants.none) (hA := dats_A m) (hpf := V_pre m)
    (hin := enter m) (hout := leave m)

/-- What the call is told of its list at the launch: at most 512 rows, each within the table. -/
abbrev Fits : Prop := ∀ c : Dev nD, (∀ x, (m ((c : Thread nD τ).loc main_arg6) x : BitVec 32).toNat ≤ 512) ∧ ∀ y, (m ((c : Thread nD τ).loc main_arg5) y : BitVec 32).toNat < 4096

end Bounds

/-- A list that fits names at most 512 rows. -/
theorem fits_count (h : Fits m) (c : Dev nD) : (listed m c).toNat ≤ 512 := by
  show (V m c main_arg6 only : BitVec 32).toNat ≤ 512
  rw [V_arg m c main_arg6 (by decide) (by decide) (by decide)]
  exact (h c).1 _
/-- A list that fits names rows of the table. -/
theorem fits_rows (h : Fits m) (c : Dev nD) (y : S512.Idx) : (rowsOf m c y).toNat < 4096 := by
  show (V m c main_arg5 y : BitVec 32).toNat < 4096
  rw [V_arg m c main_arg5 (by decide) (by decide) (by decide)]
  exact (h c).2 _

/-- The call leaves its arguments as they were, and every counter at zero; what it leaves in its result is its output block. -/
theorem ends (h : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ (∀ c : Dev nD, r.2.mem ((c.tc : Thread nD τ).loc main_v3) = (dats m 0 c).arrAt 4 (cfgM m).N)
      ∧ r.2.sem = fun _ => 0) := by
  refine (θ_run defs _ _).mono (fun _ h => ⟨fun c => ⟨?_, ?_, ?_, ?_, ?_, ?_, ?_, ?_⟩, fun c => (h.1 c).1 4, h.2⟩) (run m ρ (fits_count m h) (fits_rows m h))
  · exact ((h.1 c).2 main_arg0 (show main_arg0 ∈ Pipeline.restRefs sig spec0 from Pipeline.mem_restRefs_of main_arg0 (by decide) (by decide))).trans (V_arg m c _ (by decide) (by decide) (by decide))
  · exact ((h.1 c).2 main_arg1 (show main_arg1 ∈ Pipeline.restRefs sig spec0 from Pipeline.mem_restRefs_of main_arg1 (by decide) (by decide))).trans (V_arg m c _ (by decide) (by decide) (by decide))
  · exact ((h.1 c).2 main_arg2 (show main_arg2 ∈ Pipeline.restRefs sig spec0 from Pipeline.mem_restRefs_of main_arg2 (by decide) (by decide))).trans (V_arg m c _ (by decide) (by decide) (by decide))
  · exact ((h.1 c).1 1).trans (((dats m 0 c).arrAt_in 1 rfl _).trans ((dats_A m c 1).trans (V_arg m c main_arg3 (by decide) (by decide) (by decide))))
  · exact ((h.1 c).1 2).trans (((dats m 0 c).arrAt_in 2 rfl _).trans ((dats_A m c 2).trans (V_arg m c main_arg4 (by decide) (by decide) (by decide))))
  · exact ((h.1 c).2 main_arg5 (show main_arg5 ∈ Pipeline.restRefs sig spec0 from Pipeline.mem_restRefs_of main_arg5 (by decide) (by decide))).trans (V_arg m c _ (by decide) (by decide) (by decide))
  · exact ((h.1 c).2 main_arg6 (show main_arg6 ∈ Pipeline.restRefs sig spec0 from Pipeline.mem_restRefs_of main_arg6 (by decide) (by decide))).trans (V_arg m c _ (by decide) (by decide) (by decide))
  · exact ((h.1 c).1 3).trans (((dats m 0 c).arrAt_in 3 rfl _).trans ((dats_A m c 3).trans (V_arg m c main_arg7 (by decide) (by decide) (by decide))))

end Cert.Proof.Launch
-- ==== Proof.Listed.lean ====
/-
  What the precondition of the second call says of its row list, its length and its slots.
-/
module

public import proofs.«01_k».proof.Defs
public import proofs.«01_k».proof.Proof.Gen.Pre_listed
public import Idealize.ShloMosaic.Lib.Pointwise

@[expose] public section

noncomputable section

namespace Cert.Listed

open Idealize.ShloMosaic Cert.Pre_listed

variable {F : FTy → Type} [FloatOps F]

/-- An entry of the precondition. -/
theorem entry [Facts] (l g : FVec F S4096x16384 .f32) (t : FVec F S16384x2 .f32) (o : FVec F S4096x3 .f32)
    (f : IVec S4096x1 32) (rows : IVec S512 32) (n : IVec S1 32) (p : IVec S4096x1 32) (r : Fin 4096) (s : Fin 512) :
    fn (F := F) l g t o f rows n p (ix2 r s)
      = ((((IntOp.cmpi .sge (rows (ix1 s)) 0#32 &&& IntOp.cmpi .slt (rows (ix1 s)) 4096#32)
            &&& IntOp.cmpi .sge (n (ix1 0)) 0#32) &&& IntOp.cmpi .sle (n (ix1 0)) 512#32)
          &&& (IntOp.cmpi .sle (f (ix2 r 0)) 0#32
            ||| (IntOp.cmpi .sge (p (ix2 r 0)) 0#32 &&& IntOp.cmpi .slt (p (ix2 r 0)) (n (ix1 0)))))
        &&& ((IntOp.cmpi .sle (f (ix2 r 0)) 0#32 ||| IntOp.cmpi .ne (p (ix2 r 0)) (BitVec.ofNat 32 s.val))
          ||| IntOp.cmpi .eq (rows (ix1 s)) (BitVec.ofNat 32 r.val)) := by
  pointwise [Cert.Pre_listed.fn, Cert.Pre_listed.fn_part1, Cert.Pre_listed.fn_part2]
  rfl

/-- Two bits whose conjunction holds both hold. -/
theorem both {a b : BitVec 1} (h : a &&& b = 1#1) : a = 1#1 ∧ b = 1#1 := by
  revert a b; decide

/-- Of two bits whose disjunction holds, one holds. -/
theorem either {a b : BitVec 1} (h : a ||| b = 1#1) : a = 1#1 ∨ b = 1#1 := by
  revert a b; decide

/-- A bit made from a decision holds where the decision does. -/
theorem decided {q : Prop} [Decidable q] (h : BitVec.ofBool (decide q) = 1#1) : q := by
  by_contra hn
  rw [decide_eq_false hn] at h
  exact absurd h (by decide)

/-- At least: a comparison of words that holds, as a relation of their numbers. -/
theorem of_sge {a b : BitVec 32} (h : IntOp.cmpi .sge a b = 1#1) : b.toInt ≤ a.toInt := decided h
/-- Below. -/
theorem of_slt {a b : BitVec 32} (h : IntOp.cmpi .slt a b = 1#1) : a.toInt < b.toInt := decided h
/-- At most. -/
theorem of_sle {a b : BitVec 32} (h : IntOp.cmpi .sle a b = 1#1) : a.toInt ≤ b.toInt := decided h

/-- Equal. -/
theorem of_eq {a b : BitVec 32} (h : IntOp.cmpi .eq a b = 1#1) : a = b := by
  by_contra hn
  have e : IntOp.cmpi .eq a b = BitVec.ofBool (a == b) := rfl
  rw [e, beq_eq_false_iff_ne.2 hn] at h
  exact absurd h (by decide)

/-- Not equal. -/
theorem of_ne {a b : BitVec 32} (h : IntOp.cmpi .ne a b = 1#1) : a ≠ b := by
  rintro rfl
  have e : IntOp.cmpi .ne a a = BitVec.ofBool (a != a) := rfl
  rw [e, bne_self_eq_false] at h
  exact absurd h (by decide)

/-- A word read signed between two bounds that aren't negative is below the upper one read unsigned. -/
theorem nat_of_int {a : BitVec 32} (h0 : 0 ≤ a.toInt) : a.toInt = a.toNat := by
  have := a.isLt
  rw [BitVec.toInt_eq_toNat_cond] at h0 ⊢
  split at h0 <;> omega

/-- The precondition's words: each row listed is a row, the length is at most the list's, and a flagged row has a slot
    below the length that names it. -/
theorem words [Facts] {l g : FVec F S4096x16384 .f32} {t : FVec F S16384x2 .f32} {o : FVec F S4096x3 .f32}
    {f : IVec S4096x1 32} {rows : IVec S512 32} {n : IVec S1 32} {p : IVec S4096x1 32}
    (h : fn (F := F) l g t o f rows n p = fun _ => 1#1) :
    (∀ s, (rows (ix1 s)).toNat < 4096) ∧ (n (ix1 0)).toNat ≤ 512 ∧
      ∀ r : Fin 4096, (f (ix2 r 0)).toInt ≤ 0 ∨ ∃ s : Fin 512, s.val < (n (ix1 0)).toNat ∧ p (ix2 r 0) = BitVec.ofNat 32 s.val
        ∧ rows (ix1 s) = BitVec.ofNat 32 r.val := by
  have e r s := (entry l g t o f rows n p r s).symm.trans (congrFun h (ix2 r s))
  have i4096 : (4096#32).toInt = 4096 := by decide
  have i512 : (512#32).toInt = 512 := by decide
  have i0 : (0#32).toInt = 0 := by decide
  refine ⟨fun s => ?_, ?_, fun r => ?_⟩
  · have := (both (both (both (both (e 0 s)).1).1).1).1
    have h0 := of_sge (both this).1
    have h1 := of_slt (both this).2
    have := nat_of_int (i0 ▸ h0)
    omega
  · have := (both (both (e 0 0)).1).1
    have h0 := of_sge (both (both this).1).2
    have h1 := of_sle (both this).2
    have := nat_of_int (i0 ▸ h0)
    omega
  · have hn := (both (both (e r 0)).1).1
    have n0 := of_sge (both (both hn).1).2
    have n1 := of_sle (both hn).2
    have nn := nat_of_int (i0 ▸ n0)
    rcases either (both (both (e r 0)).1).2 with hf | hp
    · exact Or.inl (i0 ▸ of_sle hf)
    have p0 := of_sge (both hp).1
    have p1 := of_slt (both hp).2
    have pn := nat_of_int (i0 ▸ p0)
    have hlt : (p (ix2 r 0)).toNat < 512 := by omega
    have hw : p (ix2 r 0) = BitVec.ofNat 32 (p (ix2 r 0)).toNat := (BitVec.eq_of_toNat_eq (by rw [BitVec.toNat_ofNat]; omega))
    rcases either (both (e r ⟨_, hlt⟩)).2 with hq | hq
    · rcases either hq with hf | hq
      · exact Or.inl (i0 ▸ of_sle hf)
      · exact absurd hw (of_ne hq)
    · exact Or.inr ⟨⟨_, hlt⟩, by dsimp only; omega, hw, of_eq hq⟩

end Cert.Listed

end
-- ==== Proof.Same.lean ====
module

public import proofs.«01_k».proof.Proof.Gen.Kernel2Ideal.Launch
public import proofs.«01_k».proof.Proof.Gen.Kernel2.Launch

@[expose] public section

/-!
The second call's program and its copy for reading over the extended reals are the same program, so what is shown of
the one, whatever the element values, holds of the other.
-/

set_option maxRecDepth 65536

noncomputable section

namespace Cert.Proof.Same

open Idealize.ShloMosaic

variable {F : FTy → Type} [FloatOps F]

set_option maxHeartbeats 4000000 in
/-- The kernels are the same. -/
theorem body_same : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) => exact congrFun rfl _

set_option maxHeartbeats 4000000 in
/-- So are the tables of bodies. -/
theorem defs_same : Cert.Kernel2.defs (F := F) = Cert.Kernel2Ideal.defs (F := F) := by
  unfold Cert.Kernel2.defs Cert.Kernel2Ideal.defs
  exact congrArg (Pipeline.defs Cert.Kernel2Ideal.pcfgs) body_same

set_option maxHeartbeats 4000000 in
/-- So are the programs around the call. -/
theorem main_same : Cert.Kernel2.main (F := F) = Cert.Kernel2Ideal.main (F := F) := rfl

end Cert.Proof.Same

end
-- ==== Proof.Ref2.lean ====
module

public import proofs.«01_k».proof.Defs
public import proofs.«01_k».proof.Proof.Gen.Reference2Ideal
public import proofs.«01_k».proof.Proof.Ref
public import Idealize.ShloMosaic.Adequacy
public import Idealize.ShloMosaic.Lib.Claim

@[expose] public section

/-!
What the second call's reference computes, and its run.
-/

noncomputable section

namespace Cert.Ref2

open Idealize.ShloMosaic Idealize.SL.Sem Cert.Reference2Ideal Cert.Reference2Ideal.Gen Cert.Row

/-- The reference's result: those rows where the flag is set, the earlier rows elsewhere. -/
def result (l g : FVec Ideal S4096x16384 .f32) (t : FVec Ideal S16384x2 .f32) (o : FVec Ideal S4096x3 .f32) (f : IVec S4096x1 32) : FVec Ideal S4096x3 .f32 :=
  select (broadcastInDim S4096x3 ![0, 1] bcast_S4096x1_S4096x3_0_1
      (cmpi .sgt f (broadcastInDim S4096x1 ![] bcast_S_S4096x1 (constantI S_ 32 0#32))))
    (Ref.rowsAt (Ref.best l g) t) o

set_option maxHeartbeats 4000000 in
/-- The reference's run: it ends with its result as defined above and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  hlo_run
  unfold result Ref.rowsAt Ref.marks Ref.best Ref.argBest
  rfl

/-- The result's entries. -/
theorem result_apply (l g : FVec Ideal S4096x16384 .f32) (t : FVec Ideal S16384x2 .f32) (o : FVec Ideal S4096x3 .f32) (f : IVec S4096x1 32) (r : Fin 4096) (d : Fin 3) :
    result l g t o f (ix2 r d)
      = Scalar.select (IntOp.cmpi .sgt (f (ix2 r 0)) 0#32) (Ref.rowsAt (Ref.best l g) t (ix2 r d)) (o (ix2 r d)) := by
  unfold result
  generalize Ref.rowsAt (Ref.best l g) t = R
  pointwise

end Cert.Ref2

end
-- ==== Proof.Ends.lean ====
/-
  The second call's frames: under its precondition it runs, leaves its arguments and ends with every counter at zero.
-/
module

public import proofs.«01_k».proof.Proof.Launch
public import proofs.«01_k».proof.Proof.Listed
public import proofs.«01_k».proof.Proof.Same
public import proofs.«01_k».proof.Proof.Gen.Kernel2
public import proofs.«01_k».proof.Proof.Ref2

@[expose] public section

noncomputable section

namespace Cert.Proof.Ends

open Idealize.ShloMosaic Idealize.ShloMosaic.TcCoe Idealize.SL.Sem Cert.Kernel2Ideal Cert.Kernel2Ideal.Gen

variable {F : FTy → Type} [FloatOps F]

/-- The precondition bounds the list's words as the run needs. -/
theorem fits (m : (ℓ : Loc nD τ sig) → Buf (Elt F) ℓ) (h : ∀ c : Dev nD, Cert.Pre_listed.fn (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = fun _ => 1#1) : Launch.Fits m := by
  intro c
  obtain ⟨hr, hn, -⟩ := Cert.Listed.words (h c)
  refine ⟨fun x => ?_, fun y => ?_⟩
  · have e : x = ix1 (0 : Fin 1) := by
      funext a
      match a with
      | ⟨0, _⟩ => exact Fin.ext (Nat.lt_one_iff.mp (x 0).isLt)
    rw [e]; exact hn
  · have e : y = ix1 (y 0 : Fin 512) := by
      funext a
      match a with
      | ⟨0, _⟩ => rfl
    rw [e]; exact hr _

/-- The call as it is read over the extended reals. -/
theorem frame_ideal : Cert.quiescent_Kernel2Ideal (hKernel2Ideal := Cert.Kernel2Ideal.Gen.facts) (hPre_listed := Cert.Pre_listed.Gen.facts) := by
  intro m g h
  exact (θ_run _ _ _).mono (fun r h => ⟨h.1, h.2.2⟩) (Launch.ends m g (fits m h))

/-- The call as it is compiled. -/
theorem frame_bits : Cert.quiescent_Kernel2 (hKernel2 := Cert.Kernel2.Gen.facts) (hPre_listed := Cert.Pre_listed.Gen.facts) := by
  intro m g h
  rw [Same.defs_same, Same.main_same]
  exact (θ_run _ _ _).mono (fun r h => ⟨h.1, h.2.2⟩) (Launch.ends (F := Bits) m g (fits m h))

/-- The reference. -/
theorem frame_reference : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Ref2.run m g)

end Cert.Proof.Ends

end
-- ==== Proof.Best.lean ====
module

public import proofs.«01_k».proof.Proof.Ref

@[expose] public section

/-!
The first place where a row is largest, as the reference finds it.
-/

noncomputable section

namespace Cert.Best

open Idealize.ShloMosaic Cert.Row

/-- `j` is the first place where `u` is largest. -/
def First {n : ℕ} (u : Fin n → EReal) (j : Fin n) : Prop := (∀ k, u k ≤ u j) ∧ ∀ k, k < j → u k < u j

/-- There is one. -/
theorem exists_first {n : ℕ} [NeZero n] (u : Fin n → EReal) : ∃ j, First u j := by
  classical
  obtain ⟨m, -, hm⟩ := Finset.exists_max_image (Finset.univ : Finset (Fin n)) u ⟨0, Finset.mem_univ _⟩
  obtain ⟨j, hj, hmin⟩ := Finset.exists_min_image (Finset.univ.filter fun k => u k = u m) id ⟨m, by simp⟩
  have ej : u j = u m := (Finset.mem_filter.1 hj).2
  refine ⟨j, fun k => ej ▸ hm k (Finset.mem_univ _), fun k hk => lt_of_le_of_ne (ej ▸ hm k (Finset.mem_univ _)) fun e => ?_⟩
  exact absurd (hmin k (Finset.mem_filter.2 ⟨Finset.mem_univ _, e.trans ej⟩)) (not_le.2 hk)

/-- `w` comes before `p`: it is larger, or as large with a smaller place. -/
def Beats (w p : EReal × BitVec 32) : Prop := p.1 < w.1 ∨ (p.1 = w.1 ∧ IntOp.cmpi .slt w.2 p.2 = 1#1 ∧ IntOp.cmpi .slt p.2 w.2 = 0#1)

/-- The step keeps the left pair where it comes first. -/
theorem step_left {w p : EReal × BitVec 32} (h : Beats w p) : argStep w p = w := by
  rcases h with h | ⟨e, h1, -⟩
  · exact argStep_gt h
  · obtain ⟨a, b⟩ := w; obtain ⟨x, y⟩ := p
    dsimp only at e h1
    subst e
    simp [argStep, Ideal.cmpf_def, Ideal.cmp, Scalar.select, IntOp.ori, IntOp.andi, h1]

/-- The step takes the right pair where it comes first. -/
theorem step_right {w p : EReal × BitVec 32} (h : Beats w p) : argStep p w = w := by
  rcases h with h | ⟨e, -, h1⟩
  · exact argStep_lt h
  · obtain ⟨a, b⟩ := w; obtain ⟨x, y⟩ := p
    dsimp only at e h1
    subst e
    simp [argStep, Ideal.cmpf_def, Ideal.cmp, Scalar.select, IntOp.ori, IntOp.andi, h1]

/-- The step's pair is one of the two. -/
theorem step_or (a b : EReal × BitVec 32) : argStep a b = a ∨ argStep a b = b := by
  rcases lt_trichotomy a.1 b.1 with h | h | h
  · exact Or.inr (argStep_lt h)
  · obtain ⟨x, y⟩ := a; obtain ⟨z, v⟩ := b
    dsimp only at h
    subst h
    by_cases e : IntOp.cmpi .slt y v = 1#1
    · left; simp [argStep, Ideal.cmpf_def, Ideal.cmp, Scalar.select, IntOp.ori, IntOp.andi, e]
    · right
      have e0 : IntOp.cmpi .slt y v = 0#1 := (by decide : ∀ x : BitVec 1, x ≠ 1#1 → x = 0#1) _ e
      simp [argStep, Ideal.cmpf_def, Ideal.cmp, Scalar.select, IntOp.ori, IntOp.andi, e0]
  · exact Or.inl (argStep_gt h)

/-- From the pair that comes first, the fold stays there. -/
theorem fold_stay (w : EReal × BitVec 32) :
    ∀ L : List (EReal × BitVec 32), (∀ p ∈ L, p = w ∨ Beats w p) → L.foldl argStep w = w
  | [], _ => rfl
  | p :: L, h => by
    have hp : argStep w p = w := by
      rcases h p List.mem_cons_self with e | e
      · rw [e]; exact argStep_self w
      · exact step_left e
    rw [List.foldl_cons, hp]
    exact fold_stay w L fun q hq => h q (List.mem_cons_of_mem _ hq)

/-- The fold over a list that holds the pair that comes first ends there. -/
theorem fold_reach (w : EReal × BitVec 32) :
    ∀ (L : List (EReal × BitVec 32)) (a : EReal × BitVec 32), (a = w ∨ Beats w a) → w ∈ L → (∀ p ∈ L, p = w ∨ Beats w p) →
      L.foldl argStep a = w
  | [], _, _, hw, _ => absurd hw List.not_mem_nil
  | p :: L, a, ha, hw, h => by
    have hL : ∀ q ∈ L, q = w ∨ Beats w q := fun q hq => h q (List.mem_cons_of_mem _ hq)
    rcases ha with rfl | ha
    · exact fold_stay a (p :: L) h
    rw [List.foldl_cons]
    rcases h p List.mem_cons_self with e | e
    · subst e
      rw [step_right ha]
      exact fold_stay _ L hL
    · rcases List.mem_cons.1 hw with e' | hw
      · subst e'
        rw [step_right ha]
        exact fold_stay _ L hL
      · refine fold_reach w L _ ?_ hw hL
        rcases step_or a p with e' | e' <;> rw [e']
        · exact Or.inr ha
        · exact Or.inr e

/-- Small words in signed order. -/
theorem slt_words {a b : ℕ} (h : a < b) (hb : b < 2 ^ 31) :
    IntOp.cmpi .slt (BitVec.ofNat 32 a) (BitVec.ofNat 32 b) = 1#1 ∧ IntOp.cmpi .slt (BitVec.ofNat 32 b) (BitVec.ofNat 32 a) = 0#1 := by
  have e (x y : BitVec 32) : IntOp.cmpi .slt x y = BitVec.ofBool (decide (x.toInt < y.toInt)) := rfl
  rw [e, e, toInt_small (by omega), toInt_small hb]
  constructor
  · rw [decide_eq_true (by omega)]; rfl
  · rw [decide_eq_false (by omega)]; rfl

/-- The argmax finds an entry that comes before every other of those that drop to its index. -/
theorem argBest_first {s t u : Shape} {axes : List (Fin s.rank)} (x : FVec Ideal s .f32) (y : IVec s 32)
    (ix : FVec Ideal u .f32) (iy : IVec u 32) (h : s.ReducesTo axes t) (hu : 0 < u.numel) (j : t.Idx) (i : s.Idx)
    (hi : h.drop i = j)
    (h0 : ((ix (Shape.Idx.first hu), iy (Shape.Idx.first hu)) : EReal × BitVec 32) = (x i, y i) ∨ Beats (x i, y i) (ix (Shape.Idx.first hu), iy (Shape.Idx.first hu)))
    (hw : ∀ k, h.drop k = j → ((x k, y k) : EReal × BitVec 32) = (x i, y i) ∨ Beats (x i, y i) (x k, y k)) :
    Ref.argBest argStep x y ix iy h hu j = y i := by
  unfold Ref.argBest
  rw [Ideal.argReduce_eq_reduce2, Host.reduce2_eq_foldl_fiber]
  rw [fold_reach (x i, y i) _ _ h0]
  · unfold Host.argReduceFiber
    refine List.mem_map.2 ⟨s.rowMajor i, ?_, ?_⟩
    · rw [List.mem_filter]; refine ⟨List.mem_finRange _, ?_⟩
      simpa using hi
    · simp
  · intro p hp
    unfold Host.argReduceFiber at hp
    obtain ⟨n, hn, rfl⟩ := List.mem_map.1 hp
    exact hw _ (by simpa using (List.mem_filter.1 hn).2)

/-- The step over a row's pairs: `j`'s comes before every other. -/
theorem pairs_first {n : ℕ} (hn : n < 2 ^ 31) (u : Fin n → EReal) {j : Fin n} (hj : First u j) (k : Fin n) :
    ((u k, BitVec.ofNat 32 k.val) : EReal × BitVec 32) = (u j, BitVec.ofNat 32 j.val)
      ∨ Beats (u j, BitVec.ofNat 32 j.val) (u k, BitVec.ofNat 32 k.val) := by
  rcases lt_trichotomy k j with h | h | h
  · exact Or.inr (Or.inl (hj.2 k h))
  · exact Or.inl (by rw [h])
  · rcases (hj.1 k).lt_or_eq with h' | h'
    · exact Or.inr (Or.inl h')
    · have := slt_words (show j.val < k.val from h) (by omega)
      exact Or.inr (Or.inr ⟨h', this.1, this.2⟩)

/-- So does it come before the pair the fold starts from. -/
theorem start_first {n : ℕ} [NeZero n] (u : Fin n → EReal) {j : Fin n} (hj : First u j) :
    (((⊥ : EReal), 0#32) : EReal × BitVec 32) = (u j, BitVec.ofNat 32 j.val) ∨ Beats (u j, BitVec.ofNat 32 j.val) ((⊥ : EReal), 0#32) := by
  rcases (bot_le (a := u j)).lt_or_eq with h | h
  · exact Or.inr (Or.inl h)
  · have h0 : j = 0 := by
      by_contra hne
      exact absurd (h ▸ hj.2 0 (Fin.pos_iff_ne_zero.2 hne)) not_lt_bot
    left; rw [← h, h0]; rfl

section
open Cert.ReferenceIdeal Cert.ReferenceIdeal.Gen

/-- The reference's place in a row is the first where the sum is largest. -/
theorem best_first (l g : FVec Ideal S4096x16384 .f32) (r : Fin 4096) (j : Fin 16384)
    (hj : First (fun k : Fin 16384 => addf (F := Ideal) l g (ix2 r k)) j) : Ref.best l g (ix1 r) = BitVec.ofNat 32 j.val := by
  unfold Ref.best
  rw [Ref.red_eq]
  refine (argBest_first _ _ _ _ _ _ (ix1 r) (ix2 r j) (Ref.drop_eq r j) ?_ ?_).trans ?_
  · have := start_first _ hj
    rw [← Row.ninf] at this
    exact this
  · intro i hi
    obtain ⟨k, rfl⟩ := Ref.drop_iff _ r hi
    exact pairs_first (by decide) (fun k : Fin 16384 => addf (F := Ideal) l g (ix2 r k)) hj k
  · rfl

end

end Cert.Best

end
-- ==== Proof.Pick.lean ====
module

public import proofs.«01_k».proof.Proof.Gen.Kernel2Ideal.Skeleton
public import proofs.«01_k».proof.Proof.Best
public import Idealize.ShloMosaic.Lib.WordArith

@[expose] public section

/-!
What the second call's kernel computes from one batch of rows: per row the first place where it is largest, and the
two entries of the table there.
-/

noncomputable section

namespace Cert.Pick

open Cert.Kernel2Ideal Cert.Kernel2Ideal.Gen Idealize.ShloMosaic Cert.Row Cert.Best

/-- The lesser of two small words. -/
theorem min_words {a b : ℕ} (ha : a < 2 ^ 31) (hb : b < 2 ^ 31) :
    IntOp.minsi (BitVec.ofNat 32 a) (BitVec.ofNat 32 b) = BitVec.ofNat 32 (min a b) := by
  refine BitVec.eq_of_toNat_eq ?_
  rw [WordArith.toNat_minsi_of_lt]
  all_goals simp only [BitVec.toNat_ofNat]
  all_goals omega

/-- The least of small words below the greatest one: the word of the least number. -/
theorem fold_words {n : ℕ} (w : Fin n → ℕ) (hw : ∀ k, w k < 2 ^ 31) :
    Finset.univ.fold IntOp.minsi 2147483647#32 (fun k => BitVec.ofNat 32 (w k)) = BitVec.ofNat 32 (Finset.univ.fold min 2147483647 w) := by
  classical
  have : ∀ s : Finset (Fin n), s.fold min 2147483647 w < 2 ^ 31
      ∧ s.fold IntOp.minsi 2147483647#32 (fun k => BitVec.ofNat 32 (w k)) = BitVec.ofNat 32 (s.fold min 2147483647 w) := by
    intro s
    induction s using Finset.induction_on with
    | empty => exact ⟨by simp, rfl⟩
    | insert a s ha ih =>
      rw [Finset.fold_insert ha, Finset.fold_insert ha, ih.2, min_words (hw a) ih.1]
      exact ⟨lt_of_le_of_lt (min_le_left _ _) (hw a), rfl⟩
  exact (this _).2

/-- The least place among those where a row is largest is the first. -/
theorem least {u : Fin 16384 → EReal} {j : Fin 16384} (hj : First u j) (M : EReal) (hM : M = u j) [∀ k, Decidable (u k = M)] :
    Finset.univ.fold IntOp.minsi 2147483647#32 (fun k : Fin 16384 => if u k = M then BitVec.ofNat 32 k.val else 16384#32)
      = BitVec.ofNat 32 j.val := by
  classical
  have e : (fun k : Fin 16384 => if u k = M then BitVec.ofNat 32 k.val else 16384#32)
      = fun k => BitVec.ofNat 32 (if u k = u j then k.val else 16384) := by
    funext k
    by_cases h : u k = u j
    · rw [if_pos h, if_pos (h.trans hM.symm)]
    · rw [if_neg h, if_neg fun e => h (e.trans hM)]
  rw [e, fold_words _ fun k => by split <;> omega]
  refine congrArg _ (le_antisymm ?_ ?_)
  · exact (Finset.fold_min_le _).2 (Or.inr ⟨j, Finset.mem_univ _, by rw [if_pos rfl]⟩)
  · refine (Finset.le_fold_min _).2 ⟨by omega, fun k _ => ?_⟩
    split
    · rename_i h
      exact not_lt.1 fun hk => absurd h (ne_of_lt (hj.2 k hk))
    · omega

/-- A row's greatest entry. -/
theorem most {u : Fin 16384 → EReal} {j : Fin 16384} (hj : First u j) :
    Finset.univ.fold max (Ideal.ofBits .f32 0xFF800000#32) u = u j := by
  refine le_antisymm ?_ ?_
  · exact (Finset.fold_max_le _).2 ⟨ninf ▸ bot_le, fun k _ => hj.1 k⟩
  · exact (Finset.le_fold_max _).2 (Or.inr ⟨j, Finset.mem_univ _, le_rfl⟩)

/-- A sum of which a bit keeps the one term at `j`. -/
theorem sum_kept {n : ℕ} (p : Fin n → BitVec 1) (f : Fin n → EReal) {j : Fin n} (hj : ∀ k, p k = 1#1 ↔ k = j) :
    ∑ k, Scalar.select (p k) (f k) (0 : EReal) = f j := by
  rw [Finset.sum_eq_single j]
  · exact if_pos ((hj j).2 rfl)
  · intro k _ hk
    exact if_neg fun h => hk ((hj k).1 h)
  · intro h; exact absurd (Finset.mem_univ _) h

/-- A place, as a float. -/
theorem float_place (j : Fin 16384) : FloatOps.sitofp (F := Ideal) .f32 (BitVec.ofNat 32 j.val) = ((j.val : ℝ) : EReal) := by
  show (((BitVec.ofNat 32 j.val).toInt : ℝ) : EReal) = _
  rw [toInt_small (by omega)]; norm_cast

variable (L G : Vec Ideal S1x64x16384 .f32) (q0 q1 : Vec Ideal S1x16384 .f32) {i : Fin 64} {j : Fin 16384}

/-- A batch's row: the sums of logits and noise. -/
abbrev sums (i : Fin 64) : Fin 16384 → EReal := fun k => L (ix3 0 i k) + G (ix3 0 i k)

set_option maxRecDepth 16384 in
/-- The place that the kernel finds in a row. -/
theorem place_apply (hj : First (sums L G i) j) : k0_pay2 L G (ix1 i) = BitVec.ofNat 32 j.val := by
  pointwise [k0_pay2]
  exact least (u := sums L G i) hj _ (most hj)

set_option maxRecDepth 16384 in
/-- The bits that mark it. -/
theorem mark_apply (hj : First (sums L G i) j) (k : Fin 16384) : k0_pay3 L G (ix2 i k) = 1#1 ↔ k = j := by
  have e : k0_pay3 L G (ix2 i k) = IntOp.cmpi .eq (BitVec.ofNat 32 k.val) (k0_pay2 L G (ix1 i)) := by
    pointwise [k0_pay3]
  rw [e, place_apply L G hj]
  exact cmpi_ofNat (by decide) k j

set_option maxRecDepth 16384 in
/-- The first column's entry there. -/
theorem first_apply (hj : First (sums L G i) j) : k0_pay4 L G q0 (ix1 i) = q0 (ix2 0 j) := by
  have e : k0_pay4 L G q0 (ix1 i) = ∑ k : Fin 16384, Scalar.select (k0_pay3 L G (ix2 i k)) (q0 (ix2 0 k)) (0 : EReal) := by
    pointwise [k0_pay4]
  rw [e]
  exact sum_kept _ (fun k => q0 (ix2 0 k)) (mark_apply L G hj)

set_option maxRecDepth 16384 in
/-- The row that the kernel stores: the place, as a float, and the two entries. -/
theorem row_apply (hj : First (sums L G i) j) (d : Fin 3) :
    k0_pay11 (k0_pay2 L G) (k0_pay3 L G) (k0_pay4 L G q0) (Scalar.ofBits .f32 0x00000000#32) (k0_pay5 q1) (ix2 i d)
      = if d.val = 0 then ((j.val : ℝ) : EReal) else if d.val = 1 then q0 (ix2 0 j) else q1 (ix2 0 j) := by
  have h2 := place_apply L G hj
  have h4 := first_apply L G q0 hj
  have h3 : ∑ k : Fin 16384, Scalar.select (k0_pay3 L G (ix2 i k)) (q1 (ix2 0 k)) (0 : EReal) = q1 (ix2 0 j) :=
    sum_kept _ (fun k => q1 (ix2 0 k)) (mark_apply L G hj)
  have h5 (k : Fin 16384) : k0_pay5 q1 (ix2 i k) = q1 (ix2 0 k) := by
    pointwise [k0_pay5]
  generalize k0_pay2 L G = P2 at *
  generalize k0_pay3 L G = P3 at *
  generalize k0_pay4 L G q0 = P4 at *
  generalize k0_pay5 q1 = P5 at *
  pointwise [k0_pay11]
  rw [h2, h4, float_place]
  have h3' : ∑ k : Fin 16384, Scalar.select (P3 (ix2 i k)) (P5 (ix2 i k)) (0 : EReal) = q1 (ix2 0 j) :=
    (Finset.sum_congr rfl fun k _ => by rw [h5]).trans h3
  rw [h3']
  have hd := d.isLt
  split
  · rw [if_pos (by omega)]
  · rw [if_neg (by omega)]
    split
    · rw [if_pos (by omega)]
    · rw [if_neg (by omega)]

set_option maxRecDepth 16384 in
/-- The kernel's output: where the flag is set the results' row of the slot, the earlier row elsewhere. -/
theorem gather_apply (p f : Vec Ideal S4096x1 .i32) (res : Vec Ideal S512x3 .f32) (o : Vec Ideal S4096x3 .f32) (r : Fin 4096) (d : Fin 3) :
    k0_pay1 (iota .tc S4096x512 32 [1] iota_S4096x512_d1_w32) p res f o (ix2 r d)
      = Scalar.select (IntOp.cmpi .sgt (f (ix2 r 0)) 0#32)
          (∑ k : Fin 512, FloatOps.sitofp (F := Ideal) .f32 ((IntOp.cmpi .eq (BitVec.ofNat 32 k.val) (p (ix2 r 0))).setWidth 32) * res (ix2 k d))
          (o (ix2 r d)) := by
  pointwise [k0_pay1]

end Cert.Pick

end
-- ==== Proof.Gather.lean ====
/-
  The second call's result array after its run on extended reals, row by row, and its agreement with the reference's.
-/
module

public import proofs.«01_k».proof.Proof.Launch
public import proofs.«01_k».proof.Proof.Pick
public import proofs.«01_k».proof.Proof.Listed
public import proofs.«01_k».proof.Proof.Ref2
public import Idealize.ShloMosaic.Lib.Pipeline.ValueKit
public import Idealize.ShloMosaic.Lib.Tactic.CleanTypes

@[expose] public section

set_option maxRecDepth 16384

noncomputable section

namespace Cert.Gather

open Cert.Kernel2Ideal Cert.Kernel2Ideal.Gen Cert.Proof.Launch Idealize.ShloMosaic Idealize.ShloMosaic.TcCoe Idealize.SL.Sem Cert.Row Cert.Best
open Idealize.ShloMosaic.Pipeline (Dat)

variable (m : (ℓ : Loc nD τ sig) → Buf (Elt Ideal) ℓ) (c : Dev nD)

/-- The one point's blocks are whole arrays. -/
theorem places (w : Fin 5) : (pcfg0.win (adm m) w).index t0_0 = fun _ => 0 := by
  funext a
  fin_cases w <;> fin_cases a <;> rfl

/-- The point writes its block back. -/
theorem flushes : ((cfgM m).win 4).flush t0_0 = true := by
  rfl

/-- The transposed table's block. -/
theorem table_blk (a : Fin 2) (k : Fin 16384) : iblk m c 0 t0_0 (ix2 a k) = m ((c : Thread nD τ).loc main_arg2) (ix2 k a) := by
  have e : iblk m c 0 t0_0 (ix2 a k) = V m c main_v1 (ix2 a k) := by
    blk_ext [iblk, places m]
  rw [e]
  entry_read
  clean_types
  pointwise

/-- The earlier rows' block. -/
theorem prev_blk (r : Fin 4096) (d : Fin 3) : iblk m c 1 t0_0 (ix2 r d) = m ((c : Thread nD τ).loc main_arg3) (ix2 r d) := by
  blk_ext [iblk, V, places m]

/-- The flags' block. -/
theorem flag_blk (r : Fin 4096) : iblk m c 2 t0_0 (ix2 r 0) = m ((c : Thread nD τ).loc main_arg4) (ix2 r 0) := by
  blk_ext [iblk, V, places m]

/-- The slots' block. -/
theorem slot_blk (r : Fin 4096) : iblk m c 3 t0_0 (ix2 r 0) = m ((c : Thread nD τ).loc main_arg7) (ix2 r 0) := by
  blk_ext [iblk, V, places m]

/-- A row of the logits. -/
theorem logits_at (r : Fin 4096) (k : Fin 16384) : logitsOf m c (ix3 r 0 k) = m ((c : Thread nD τ).loc main_arg0) (ix2 r k) := by
  show V m c main_v2 (ix3 r 0 k) = _
  entry_read
  clean_types
  pointwise

/-- A row of the noise. -/
theorem noise_at (r : Fin 4096) (k : Fin 16384) : noiseOf m c (ix3 r 0 k) = m ((c : Thread nD τ).loc main_arg1) (ix2 r k) := by
  show V m c main_v0 (ix3 r 0 k) = _
  entry_read
  clean_types
  pointwise

/-- No two points write back: there is one. -/
theorem disjoint : ∀ t t' : Fin (cfgM m).N, ((cfgM m).win 4).flush t = true → ((cfgM m).win 4).flush t' = true → t ≠ t' →
    Disjoint (((cfgM m).win 4).blk t).view.set (((cfgM m).win 4).blk t').view.set :=
  fun t t' _ _ hne => absurd ((fin_N0 t).trans (fin_N0 t').symm) hne

/-- The result array is what the body leaves in its block. -/
theorem out_at (r : Fin 4096) (d : Fin 3) : (dats m 0 c).arrAt 4 (cfgM m).N (ix2 r d) = made m c t0_0 (ix2 r d) := by
  have hf : (dats m 0 c).flushed 4 t0_0 = ((cfgM m).win 4).cut (grid0.coords t0_0) (made m c t0_0) := by
    show ((cfgM m).win 4).cut (grid0.coords t0_0) ((dats m 0 c).after 4 t0_0) = _
    rw [after_4]
  have e := congrFun ((dats m 0 c).read_blk_arrAt_eq_flushed 4 (disjoint m) (cfgM m).N t0_0 t0_0.isLt (flushes m)) (ix2 r d)
  rw [hf] at e
  generalize made m c t0_0 = M at e ⊢
  generalize (dats m 0 c).arrAt 4 (cfgM m).N = A at e ⊢
  have h : (ix2 r d : S4096x3.Idx) = (((cfgM m).win 4).blk t0_0).view.emb (ix2 r d) := by
    blk_ext [places m]
  exact (congrArg A h).trans e

/-- The body's block, entry by entry. -/
theorem made_at (r : Fin 4096) (d : Fin 3) : made m c t0_0 (ix2 r d)
    = k0_pay1 (F := Ideal) (iota .tc S4096x512 32 [1] iota_S4096x512_d1_w32) (View.ld (iblk m c 3 t0_0) Cert.Proof.Sweep.rCol)
        (Cert.Proof.Sweep.resAt (logitsOf m c) (noiseOf m c) (View.ld (iblk m c 0 t0_0) Cert.Proof.Sweep.rRow0) (View.ld (iblk m c 0 t0_0) Cert.Proof.Sweep.rRow1)
          (rowAt m c) (Cert.Proof.Words.batches (listed m c)))
        (View.ld (iblk m c 2 t0_0) Cert.Proof.Sweep.rCol) (View.ld (iblk m c 1 t0_0) Cert.Proof.Sweep.rOut) (ix2 r d) := by
  unfold made Cert.Proof.Sweep.outOf
  frame_out
  rfl

/-- A whole column, loaded. -/
theorem ld_col (x : S4096x1.Idx → BitVec 32) (r : Fin 4096) : View.ld (Val := Elt Ideal) (e' := .i32) x Cert.Proof.Sweep.rCol (ix2 r 0) = x (ix2 r 0) :=
  View.ld_unit_apply_of _ _ _ _ _ _ fun a => by fin_cases a <;> simp

/-- The whole of the earlier rows, loaded. -/
theorem ld_out (x : S4096x3.Idx → EReal) (r : Fin 4096) (d : Fin 3) : View.ld (Val := Elt Ideal) (e' := .f32) x Cert.Proof.Sweep.rOut (ix2 r d) = x (ix2 r d) :=
  View.ld_unit_apply_of _ _ _ _ _ _ fun a => by fin_cases a <;> simp

/-- The transposed table's first row, loaded. -/
theorem ld_row0 (x : S2x16384.Idx → EReal) (k : Fin 16384) : View.ld (Val := Elt Ideal) (e' := .f32) x Cert.Proof.Sweep.rRow0 (ix2 0 k) = x (ix2 0 k) :=
  View.ld_unit_apply_of _ _ _ _ _ _ fun a => by fin_cases a <;> simp

/-- The transposed table's second row, loaded. -/
theorem ld_row1 (x : S2x16384.Idx → EReal) (k : Fin 16384) : View.ld (Val := Elt Ideal) (e' := .f32) x Cert.Proof.Sweep.rRow1 (ix2 0 k) = x (ix2 1 k) :=
  View.ld_unit_apply_of _ _ _ _ _ _ fun a => by fin_cases a <;> simp

section
variable (X Y : S4096x1x16384.Idx → EReal) (q0 q1 : S1x16384.Idx → EReal) (ρ : ℕ → Fin 64 → Fin 4096)

/-- A fetched row's entry is the table's. -/
theorem fetched_L (σ : Fin 64 → Fin 4096) (i : Fin 64) (k : Fin 16384) :
    Cert.Proof.Rows.rowsOf (Val := Elt Ideal) Cert.Proof.Fetch.tabL X σ (ix3 0 i k) = X (ix3 (σ i) 0 k) := by
  refine congrArg X ?_
  funext a
  fin_cases a <;> rfl

/-- The same of the noise. -/
theorem fetched_G (σ : Fin 64 → Fin 4096) (i : Fin 64) (k : Fin 16384) :
    Cert.Proof.Rows.rowsOf (Val := Elt Ideal) Cert.Proof.Fetch.tabG Y σ (ix3 0 i k) = Y (ix3 (σ i) 0 k) := by
  refine congrArg Y ?_
  funext a
  fin_cases a <;> rfl

/-- The results' row of a slot that a batch has filled. -/
theorem slot_row (n : ℕ) (s : Fin 512) (hs : s.val < 64 * n) (r : Fin 4096) (hr : ρ (s.val / 64) ⟨s.val % 64, Nat.mod_lt _ (by decide)⟩ = r)
    (j : Fin 16384) (hj : First (fun k => X (ix3 r 0 k) + Y (ix3 r 0 k)) j) (d : Fin 3) :
    Cert.Proof.Sweep.resAt (F := Ideal) X Y q0 q1 ρ n (ix2 s d)
      = if d.val = 0 then ((j.val : ℝ) : EReal) else if d.val = 1 then q0 (ix2 0 j) else q1 (ix2 0 j) := by
  subst hr
  unfold Cert.Proof.Sweep.resAt Cert.Proof.Sweep.piece
  refine (if_pos hs).trans ?_
  refine Eq.trans (congrArg _ ?_) (Cert.Pick.row_apply _ _ q0 q1 (i := ⟨s.val % 64, Nat.mod_lt _ (by decide)⟩) (j := j) ?_ d)
  · funext a
    fin_cases a <;> rfl
  · have e : (Cert.Pick.sums (Cert.Proof.Rows.rowsOf (Val := Elt Ideal) Cert.Proof.Fetch.tabL X (ρ (s.val / 64))) (Cert.Proof.Rows.rowsOf (Val := Elt Ideal) Cert.Proof.Fetch.tabG Y (ρ (s.val / 64)))
        ⟨s.val % 64, Nat.mod_lt _ (by decide)⟩) = _ := funext fun k => congrArg₂ (· + ·) (fetched_L X _ _ k) (fetched_G Y _ _ k)
    exact e ▸ hj

/-- The output's row, where the flag is set and the slot is one that a batch has filled. -/
theorem set_row (n : ℕ) (s : Fin 512) (hs : s.val < 64 * n) (r : Fin 4096) (hr : ρ (s.val / 64) ⟨s.val % 64, Nat.mod_lt _ (by decide)⟩ = r)
    (j : Fin 16384) (hj : First (fun k => X (ix3 r 0 k) + Y (ix3 r 0 k)) j) (d : Fin 3) (p f : S4096x1.Idx → BitVec 32) (o : S4096x3.Idx → EReal)
    (hp : p (ix2 r 0) = BitVec.ofNat 32 s.val) (hf : IntOp.cmpi .sgt (f (ix2 r 0)) 0#32 = 1#1) :
    k0_pay1 (F := Ideal) (iota .tc S4096x512 32 [1] iota_S4096x512_d1_w32) p (Cert.Proof.Sweep.resAt (F := Ideal) X Y q0 q1 ρ n) f o (ix2 r d)
      = if d.val = 0 then ((j.val : ℝ) : EReal) else if d.val = 1 then q0 (ix2 0 j) else q1 (ix2 0 j) := by
  have e := slot_row X Y q0 q1 ρ n s hs r hr j hj d
  generalize Cert.Proof.Sweep.resAt (F := Ideal) X Y q0 q1 ρ n = R at e ⊢
  rw [Cert.Pick.gather_apply, hf, hp]
  refine (if_pos rfl).trans ((sum_single _ (fun k => R (ix2 k d)) fun k => cmpi_ofNat (by decide) k s).trans e)

/-- The output's row where the flag isn't set. -/
theorem kept_row (R : S512x3.Idx → EReal) (r : Fin 4096) (d : Fin 3) (p f : S4096x1.Idx → BitVec 32) (o : S4096x3.Idx → EReal)
    (hf : IntOp.cmpi .sgt (f (ix2 r 0)) 0#32 = 0#1) :
    k0_pay1 (F := Ideal) (iota .tc S4096x512 32 [1] iota_S4096x512_d1_w32) p R f o (ix2 r d) = o (ix2 r d) := by
  rw [Cert.Pick.gather_apply, hf]
  exact if_neg (by decide)

end

/-- The comparison with zero, where it holds. -/
theorem sgt_of {w : BitVec 32} (h : w.toInt ≤ 0) : IntOp.cmpi .sgt w 0#32 = 0#1 := by
  have e : IntOp.cmpi .sgt w 0#32 = BitVec.ofBool (decide ((0#32).toInt < w.toInt)) := rfl
  have i0 : (0#32).toInt = 0 := by decide
  rw [e, decide_eq_false (by omega)]; rfl

/-- **The call's result is the reference's**, entry by entry, where the list is as the precondition says. -/
theorem agree (h : Cert.Pre_listed.fn (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) = fun _ => 1#1) :
    Cert.Ref2.result (m ((c : Thread nD τ).loc main_arg0)) (m ((c : Thread nD τ).loc main_arg1)) (m ((c : Thread nD τ).loc main_arg2))
      (m ((c : Thread nD τ).loc main_arg3)) (m ((c : Thread nD τ).loc main_arg4)) = (dats m 0 c).arrAt 4 (cfgM m).N := by
  obtain ⟨hrows, hn, hslots⟩ := Cert.Listed.words h
  funext i
  obtain ⟨r, d, rfl⟩ : ∃ (r : Fin 4096) (d : Fin 3), i = ix2 r d := ⟨i 0, i 1, by funext a; fin_cases a <;> rfl⟩
  rw [Cert.Ref2.result_apply]
  refine Eq.trans ?_ ((out_at m c r d).trans (made_at m c r d)).symm
  have hf : View.ld (Val := Elt Ideal) (e' := .i32) (iblk m c 2 t0_0) Cert.Proof.Sweep.rCol (ix2 r 0) = m ((c : Thread nD τ).loc main_arg4) (ix2 r 0) :=
    (ld_col _ r).trans (flag_blk m c r)
  have kept (h0 : IntOp.cmpi .sgt ((m ((c : Thread nD τ).loc main_arg4) : S4096x1.Idx → BitVec 32) (ix2 r 0)) 0#32 = 0#1) :
      Scalar.select (IntOp.cmpi .sgt ((m ((c : Thread nD τ).loc main_arg4) : S4096x1.Idx → BitVec 32) (ix2 r 0)) 0#32)
        (Ref.rowsAt (Ref.best (m ((c : Thread nD τ).loc main_arg0)) (m ((c : Thread nD τ).loc main_arg1))) (m ((c : Thread nD τ).loc main_arg2)) (ix2 r d))
        (m ((c : Thread nD τ).loc main_arg3) (ix2 r d))
      = k0_pay1 (F := Ideal) (iota .tc S4096x512 32 [1] iota_S4096x512_d1_w32) (View.ld (iblk m c 3 t0_0) Cert.Proof.Sweep.rCol)
        (Cert.Proof.Sweep.resAt (logitsOf m c) (noiseOf m c) (View.ld (iblk m c 0 t0_0) Cert.Proof.Sweep.rRow0) (View.ld (iblk m c 0 t0_0) Cert.Proof.Sweep.rRow1)
          (rowAt m c) (Cert.Proof.Words.batches (listed m c)))
        (View.ld (iblk m c 2 t0_0) Cert.Proof.Sweep.rCol) (View.ld (iblk m c 1 t0_0) Cert.Proof.Sweep.rOut) (ix2 r d) := by
    refine Eq.trans ?_ (kept_row _ r d _ _ _ ((congrArg (IntOp.cmpi .sgt · 0#32) hf).trans h0)).symm
    refine Eq.trans ?_ ((ld_out _ r d).trans (prev_blk m c r d)).symm
    rw [h0]
    exact if_neg (by decide)
  rcases hslots r with h0 | ⟨s, hs, hp, hr⟩
  · exact kept (sgt_of h0)
  rcases BitVec.eq_zero_or_eq_one (IntOp.cmpi .sgt ((m ((c : Thread nD τ).loc main_arg4) : S4096x1.Idx → BitVec 32) (ix2 r 0)) 0#32) with h0 | h1
  · exact kept h0
  obtain ⟨j, hj⟩ := exists_first fun k : Fin 16384 =>
    (addf (F := Ideal) (m ((c : Thread nD τ).loc main_arg0)) (m ((c : Thread nD τ).loc main_arg1)) : FVec Ideal S4096x16384 .f32) (ix2 r k)
  have hb := best_first _ _ r j hj
  have hsum : (fun k => logitsOf m c (ix3 r 0 k) + noiseOf m c (ix3 r 0 k)) = fun k : Fin 16384 =>
      (addf (F := Ideal) (m ((c : Thread nD τ).loc main_arg0)) (m ((c : Thread nD τ).loc main_arg1)) : FVec Ideal S4096x16384 .f32) (ix2 r k) :=
    funext fun k => congrArg₂ (fun a b : EReal => a + b) (logits_at m c r k) (noise_at m c r k)
  have hcount : (listed m c : BitVec 32) = m ((c : Thread nD τ).loc main_arg6) (ix1 0) := by
    show V m c main_arg6 only = _
    rw [V_arg m c main_arg6 (by decide) (by decide) (by decide)]
    exact congrArg _ (by funext a; fin_cases a; rfl)
  have hlt : s.val < 64 * Cert.Proof.Words.batches (listed m c) := by
    unfold Cert.Proof.Words.batches
    rw [hcount]; omega
  have hrow : rowAt m c (s.val / 64) ⟨s.val % 64, Nat.mod_lt _ (by decide)⟩ = r := by
    refine Fin.ext ?_
    have e : place (64 * (s.val / 64) + s.val % 64) = ix1 s := by
      funext a; fin_cases a
      exact Fin.ext (by show (64 * (s.val / 64) + s.val % 64) % 512 = s.val; have := s.isLt; omega)
    show (V m c main_arg5 (place (64 * (s.val / 64) + s.val % 64)) : BitVec 32).toNat % 4096 = r.val
    rw [e, V_arg m c main_arg5 (by decide) (by decide) (by decide), hr, BitVec.toNat_ofNat]
    have := r.isLt
    omega
  refine Eq.trans ?_ (set_row (logitsOf m c) (noiseOf m c) _ _ (rowAt m c) _ s hlt r hrow j (hsum ▸ hj) d _ _ _
    (((ld_col _ r).trans (slot_blk m c r)).trans hp) ((congrArg (IntOp.cmpi .sgt · 0#32) hf).trans h1)).symm
  rw [h1]
  refine (if_pos rfl).trans ((Ref.rowsAt_apply _ _ r j hb d).trans ?_)
  have e0 := (ld_row0 (iblk m c 0 t0_0) j).trans (table_blk m c 0 j)
  have e1 := (ld_row1 (iblk m c 0 t0_0) j).trans (table_blk m c 1 j)
  exact congrArg₂ (fun a b : EReal => if d.val = 0 then ((j.val : ℝ) : EReal) else if d.val = 1 then a else b) e0.symm e1.symm

end Cert.Gather

end
-- ==== Proof.lean ====
/-
  The proof of `Cert.Claim`: frames, preservation and agreement with the reference, of the main call and of the second call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_noise
public import proofs.«01_k».proof.Proof.Gen.On_settled
public import proofs.«01_k».proof.Proof.Gen.KernelIdeal.Value
public import proofs.«01_k».proof.Proof.Tie
public import proofs.«01_k».proof.Proof.Ends
public import proofs.«01_k».proof.Proof.Gather
public import proofs.«01_k».proof.Proof.Gen.Kernel2
public import proofs.«01_k».proof.Proof.Gen.Kernel2.Skeleton
public import proofs.«01_k».proof.Proof.Gen.Kernel2.Launch
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Reference2Ideal
public import proofs.«01_k».proof.Proof.Gen.Pre_listed
public import Idealize.ShloMosaic.Adequacy
public import Idealize.ShloMosaic.Init

@[expose] public section

noncomputable section

namespace Cert.Proof

open Idealize.ShloMosaic Idealize.SL.Sem

/-- The reference ends with every counter at zero and its arguments as they were. -/
theorem frame_reference : Cert.quiescent_ReferenceIdeal (hReferenceIdeal := Cert.ReferenceIdeal.Gen.facts) := by
  intro m g _
  exact (θ_run _ _ _).mono (fun r h => ⟨fun c => (h c).2.2, sem_eq_zero_of_no_sems (by decide) r.2⟩) (Cert.Ref.run m g)

/-- The call's results are the reference's, wherever the mask holds. -/
theorem agree : Cert.algebraic_KernelIdeal_ReferenceIdeal_on_settled_pre_noise (hKernelIdeal := Cert.KernelIdeal.Gen.facts)
    (hReferenceIdeal := Cert.ReferenceIdeal.Gen.facts) (hPre_noise := Cert.Pre_noise.Gen.facts)
    (hOn_settled := Cert.On_settled.Gen.facts) := by
  intro m g m' g' hpre hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    (θ_run _ _ _).mono (fun r h c => ?_) (Cert.KernelIdeal.Value.run_blocks m g),
    (θ_run _ _ _).mono (fun r h c => ?_) (Cert.Ref.run m' g')⟩
  · obtain ⟨h0, h1, a0, a1, a2, a3⟩ := h c
    exact ⟨fun i _ => congrFun h0 i, fun i _ => congrFun h1 i, a0, a1, a2, a3⟩
  · obtain ⟨h0, h1, a0, a1, a2, a3⟩ := h c
    obtain ⟨e0, e1, e2, e3⟩ := hagree c
    refine ⟨fun i hi => ?_, fun i _ => ?_, a0, a1, a2, a3⟩
    · rw [h0, e0, e1, e3]
      exact Cert.Tie.rows_agree m c (hpre c) i hi
    · rw [h1, e0, e2]
      exact Cert.Tie.flags_agree m c i

/-- The second call's result is its reference's. -/
theorem agree_fallback : Cert.algebraic_Kernel2Ideal_Reference2Ideal (hKernel2Ideal := Cert.Kernel2Ideal.Gen.facts)
    (hReference2Ideal := Cert.Reference2Ideal.Gen.facts) (hPre_listed := Cert.Pre_listed.Gen.facts) := by
  intro m g m' g' hpre hagree
  refine ⟨fun c => (Launch.dats m 0 c).arrAt 4 (Launch.cfgM m).N,
    (θ_run _ _ _).mono (fun r h c => ⟨h.2.1 c, h.1 c⟩) (Launch.ends m g (Ends.fits m hpre)),
    (θ_run _ _ _).mono (fun r h c => ?_) (Cert.Ref2.run m' g')⟩
  obtain ⟨h0, hargs⟩ := h c
  obtain ⟨e0, e1, e2, e3, e4, -⟩ := hagree c
  refine ⟨?_, hargs⟩
  rw [h0, e0, e1, e2, e3, e4]
  exact Cert.Gather.agree m c (hpre c)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_noise.Gen.facts, Cert.Pre_listed.Gen.facts, Cert.On_settled.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  Ends.frame_bits,
  Ends.frame_ideal,
  Ends.frame_reference,
  fun m g _ => Ends.frame_reference m g trivial,
  trivial,
  agree,
  trivial,
  agree_fallback⟩

end Cert.Proof

end
